-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S1024x256 : Shape := ⟨2, ![1024, 256]⟩
abbrev S4 : Shape := ⟨1, ![4]⟩
abbrev S_ : Shape := ⟨0, ![]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .f32⟩
  | .hbm, ⟨1, _⟩ => ⟨S1024x256, .f32⟩
  | .local _ .vmem, ⟨0, _⟩ => ⟨S256x256, .f32⟩
  | .local _ .vmem, ⟨1, _⟩ => ⟨S1024x256, .f32⟩
  | _, _ => ⟨S256x256, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v10 : BitVec 1 := Scalar.cmpi .ne v8 c0_i32
  let v11 : BitVec 32 := Scalar.extui v10
  let c0_i32_2 : BitVec 32 := 0#32
  let v12 : BitVec 1 := Scalar.cmpi .ne v11 c0_i32_2
  v12

def k0_dev1 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v63 : BitVec 32 := Scalar.muli v2 c8_i32_37
  let v64 : BitVec 32 := Scalar.addi c0_i32_38 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v65 : BitVec 32 := Scalar.muli v5 c4_i32_39
  let v66 : BitVec 32 := Scalar.addi v64 v65
  let c0_i32_36 : BitVec 32 := 0#32
  let c1_i32_40 : BitVec 32 := 1#32
  let v67 : BitVec 32 := Scalar.muli c0_i32_36 c1_i32_40
  let v68 : BitVec 32 := Scalar.addi v66 v67
  v68.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v13 : BitVec 1 := Scalar.cmpi .ne v8 c1_i32_3
  let v14 : BitVec 32 := Scalar.extui v13
  let c0_i32_4 : BitVec 32 := 0#32
  let v15 : BitVec 1 := Scalar.cmpi .ne v14 c0_i32_4
  v15

def k0_dev2 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v63 : BitVec 32 := Scalar.muli v2 c8_i32_37
  let v64 : BitVec 32 := Scalar.addi c0_i32_38 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v65 : BitVec 32 := Scalar.muli v5 c4_i32_39
  let v66 : BitVec 32 := Scalar.addi v64 v65
  let c1_i32_36 : BitVec 32 := 1#32
  let c1_i32_40 : BitVec 32 := 1#32
  let v67 : BitVec 32 := Scalar.muli c1_i32_36 c1_i32_40
  let v68 : BitVec 32 := Scalar.addi v66 v67
  v68.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v16 : BitVec 1 := Scalar.cmpi .ne v8 c2_i32_5
  let v17 : BitVec 32 := Scalar.extui v16
  let c0_i32_6 : BitVec 32 := 0#32
  let v18 : BitVec 1 := Scalar.cmpi .ne v17 c0_i32_6
  v18

def k0_dev3 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v63 : BitVec 32 := Scalar.muli v2 c8_i32_37
  let v64 : BitVec 32 := Scalar.addi c0_i32_38 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v65 : BitVec 32 := Scalar.muli v5 c4_i32_39
  let v66 : BitVec 32 := Scalar.addi v64 v65
  let c2_i32_36 : BitVec 32 := 2#32
  let c1_i32_40 : BitVec 32 := 1#32
  let v67 : BitVec 32 := Scalar.muli c2_i32_36 c1_i32_40
  let v68 : BitVec 32 := Scalar.addi v66 v67
  v68.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v19 : BitVec 1 := Scalar.cmpi .ne v8 c3_i32
  let v20 : BitVec 32 := Scalar.extui v19
  let c0_i32_7 : BitVec 32 := 0#32
  let v21 : BitVec 1 := Scalar.cmpi .ne v20 c0_i32_7
  v21

def k0_dev4 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v63 : BitVec 32 := Scalar.muli v2 c8_i32_37
  let v64 : BitVec 32 := Scalar.addi c0_i32_38 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_39 : BitVec 32 := 4#32
  let v65 : BitVec 32 := Scalar.muli v5 c4_i32_39
  let v66 : BitVec 32 := Scalar.addi v64 v65
  let c3_i32_36 : BitVec 32 := 3#32
  let c1_i32_40 : BitVec 32 := 1#32
  let v67 : BitVec 32 := Scalar.muli c3_i32_36 c1_i32_40
  let v68 : BitVec 32 := Scalar.addi v66 v67
  v68.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v24 : BitVec 32 := Scalar.muli v8 c256_i32
  let v25 : Index := Scalar.indexCast v24
  let c0_10 : Index := 0#32
  ![v25.toNat, 0]
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_11 : BitVec 32 := 0#32
  let v27 : BitVec 1 := Scalar.cmpi .ne v8 c0_i32_11
  let v28 : BitVec 32 := Scalar.extui v27
  let c0_i32_12 : BitVec 32 := 0#32
  let v29 : BitVec 1 := Scalar.cmpi .ne v28 c0_i32_12
  v29

def k0_off2 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_36 : BitVec 32 := 256#32
  let v64 : BitVec 32 := Scalar.muli v8 c256_i32_36
  let c0_i32_43 : BitVec 32 := 0#32
  ![v64.toNat, 0]
def k0_dev5 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v65 : BitVec 32 := Scalar.muli v2 c8_i32_39
  let v66 : BitVec 32 := Scalar.addi c0_i32_40 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v67 : BitVec 32 := Scalar.muli v5 c4_i32_41
  let v68 : BitVec 32 := Scalar.addi v66 v67
  let c0_i32_38 : BitVec 32 := 0#32
  let c1_i32_42 : BitVec 32 := 1#32
  let v69 : BitVec 32 := Scalar.muli c0_i32_38 c1_i32_42
  let v70 : BitVec 32 := Scalar.addi v68 v69
  v70.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v30 : BitVec 1 := Scalar.cmpi .ne v8 c1_i32_13
  let v31 : BitVec 32 := Scalar.extui v30
  let c0_i32_14 : BitVec 32 := 0#32
  let v32 : BitVec 1 := Scalar.cmpi .ne v31 c0_i32_14
  v32

def k0_off4 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_36 : BitVec 32 := 256#32
  let v64 : BitVec 32 := Scalar.muli v8 c256_i32_36
  let c0_i32_43 : BitVec 32 := 0#32
  ![v64.toNat, 0]
def k0_dev6 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v65 : BitVec 32 := Scalar.muli v2 c8_i32_39
  let v66 : BitVec 32 := Scalar.addi c0_i32_40 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v67 : BitVec 32 := Scalar.muli v5 c4_i32_41
  let v68 : BitVec 32 := Scalar.addi v66 v67
  let c1_i32_38 : BitVec 32 := 1#32
  let c1_i32_42 : BitVec 32 := 1#32
  let v69 : BitVec 32 := Scalar.muli c1_i32_38 c1_i32_42
  let v70 : BitVec 32 := Scalar.addi v68 v69
  v70.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let v33 : BitVec 1 := Scalar.cmpi .ne v8 c2_i32_15
  let v34 : BitVec 32 := Scalar.extui v33
  let c0_i32_16 : BitVec 32 := 0#32
  let v35 : BitVec 1 := Scalar.cmpi .ne v34 c0_i32_16
  v35

def k0_off6 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_36 : BitVec 32 := 256#32
  let v64 : BitVec 32 := Scalar.muli v8 c256_i32_36
  let c0_i32_43 : BitVec 32 := 0#32
  ![v64.toNat, 0]
def k0_dev7 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v65 : BitVec 32 := Scalar.muli v2 c8_i32_39
  let v66 : BitVec 32 := Scalar.addi c0_i32_40 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v67 : BitVec 32 := Scalar.muli v5 c4_i32_41
  let v68 : BitVec 32 := Scalar.addi v66 v67
  let c2_i32_38 : BitVec 32 := 2#32
  let c1_i32_42 : BitVec 32 := 1#32
  let v69 : BitVec 32 := Scalar.muli c2_i32_38 c1_i32_42
  let v70 : BitVec 32 := Scalar.addi v68 v69
  v70.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_17 : BitVec 32 := 3#32
  let v36 : BitVec 1 := Scalar.cmpi .ne v8 c3_i32_17
  let v37 : BitVec 32 := Scalar.extui v36
  let c0_i32_18 : BitVec 32 := 0#32
  let v38 : BitVec 1 := Scalar.cmpi .ne v37 c0_i32_18
  v38

def k0_off8 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_36 : BitVec 32 := 256#32
  let v64 : BitVec 32 := Scalar.muli v8 c256_i32_36
  let c0_i32_43 : BitVec 32 := 0#32
  ![v64.toNat, 0]
def k0_dev8 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_39 : BitVec 32 := 8#32
  let v65 : BitVec 32 := Scalar.muli v2 c8_i32_39
  let v66 : BitVec 32 := Scalar.addi c0_i32_40 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_41 : BitVec 32 := 4#32
  let v67 : BitVec 32 := Scalar.muli v5 c4_i32_41
  let v68 : BitVec 32 := Scalar.addi v66 v67
  let c3_i32_38 : BitVec 32 := 3#32
  let c1_i32_42 : BitVec 32 := 1#32
  let v69 : BitVec 32 := Scalar.muli c3_i32_38 c1_i32_42
  let v70 : BitVec 32 := Scalar.addi v68 v69
  v70.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_27 : BitVec 32 := 0#32
  let v51 : BitVec 1 := Scalar.cmpi .ne v8 c0_i32_27
  let v52 : BitVec 32 := Scalar.extui v51
  let c0_i32_28 : BitVec 32 := 0#32
  let v53 : BitVec 1 := Scalar.cmpi .ne v52 c0_i32_28
  v53

def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_35 : BitVec 32 := 256#32
  let v63 : BitVec 32 := Scalar.muli v8 c256_i32_35
  let c0_i32_40 : BitVec 32 := 0#32
  ![v63.toNat, 0]
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v54 : BitVec 1 := Scalar.cmpi .ne v8 c1_i32_29
  let v55 : BitVec 32 := Scalar.extui v54
  let c0_i32_30 : BitVec 32 := 0#32
  let v56 : BitVec 1 := Scalar.cmpi .ne v55 c0_i32_30
  v56

def k0_off11 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_35 : BitVec 32 := 256#32
  let v63 : BitVec 32 := Scalar.muli v8 c256_i32_35
  let c0_i32_40 : BitVec 32 := 0#32
  ![v63.toNat, 0]
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_31 : BitVec 32 := 2#32
  let v57 : BitVec 1 := Scalar.cmpi .ne v8 c2_i32_31
  let v58 : BitVec 32 := Scalar.extui v57
  let c0_i32_32 : BitVec 32 := 0#32
  let v59 : BitVec 1 := Scalar.cmpi .ne v58 c0_i32_32
  v59

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_35 : BitVec 32 := 256#32
  let v63 : BitVec 32 := Scalar.muli v8 c256_i32_35
  let c0_i32_40 : BitVec 32 := 0#32
  ![v63.toNat, 0]
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_33 : BitVec 32 := 3#32
  let v60 : BitVec 1 := Scalar.cmpi .ne v8 c3_i32_33
  let v61 : BitVec 32 := Scalar.extui v60
  let c0_i32_34 : BitVec 32 := 0#32
  let v62 : BitVec 1 := Scalar.cmpi .ne v61 c0_i32_34
  v62

def k0_off13 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_35 : BitVec 32 := 256#32
  let v63 : BitVec 32 := Scalar.muli v8 c256_i32_35
  let c0_i32_40 : BitVec 32 := 0#32
  ![v63.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩

abbrev nBuf : Space → Nat
  | .hbm => 1
  | .vmem => 0
  | .smem => 0
  | _ => 0

abbrev bufTy : (tb : Table) → Fin (tcTables nBuf tb) → BufTy
  | .hbm, ⟨0, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Line.lean ====
/-
The mesh lines and the slabs of the gather kernel.

The sixteen devices lie on a 2 x 2 x 4 mesh, numbered row-major, so a device's line along the last axis is
the four devices sharing its quotient by four, and its place on the line is its remainder. The kernel's
output staging buffer, 1024 x 256, is four SLABS of 256 rows; slab `o` is for the block of the device at
place `o`. This module has the arithmetic of lines, the slabs as element sets and as the memrefs the kernel
slices, and what all four slabs should hold in the end (`gath`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ViewIndex
public import Idealize.ShloMosaic.Lib.ShareLeaves

@[expose] public section

noncomputable section

namespace Cert.Gather

open Cert.KernelIdeal Cert.KernelIdeal.Gen
open Idealize.ShloMosaic
open Idealize.ShloMosaic.TcCoe

/-! ## Lines -/

set_option backward.proofsInPublic true in
/-- A device's place on its line. -/
def place (c : Dev nD) : Fin 4 := ⟨c.val % 4, Nat.mod_lt _ (by decide)⟩

set_option backward.proofsInPublic true in
/-- The device at place `t` of `c`'s line. -/
def peer (c : Dev nD) (t : Fin 4) : Dev nD :=
  ⟨4 * (c.val / 4) + t.val, by have h : c.val < 16 := c.isLt; have := t.isLt; show _ < 16; omega⟩

theorem place_val (c : Dev nD) : (place c).val = c.val % 4 := rfl
theorem peer_val (c : Dev nD) (t : Fin 4) : (peer c t).val = 4 * (c.val / 4) + t.val := rfl

/-- The device at place `t` is at place `t`. -/
theorem place_peer (c : Dev nD) (t : Fin 4) : place (peer c t) = t := by
  apply Fin.ext; rw [place_val, peer_val]; omega
/-- Members of one line see the same line. -/
theorem peer_peer (c : Dev nD) (s t : Fin 4) : peer (peer c s) t = peer c t := by
  apply Fin.ext; rw [peer_val, peer_val, peer_val]; omega
/-- A device is the one at its own place. -/
theorem peer_place (c : Dev nD) : peer c (place c) = c := by
  apply Fin.ext; rw [peer_val, place_val]; omega
theorem peer_peer_place (c : Dev nD) (t : Fin 4) : peer (peer c t) (place c) = c := by
  rw [peer_peer, peer_place]

/-- "`t`'s partner on the line of `c`, with the place `c` has": its own inverse. -/
def swap : Dev nD × Fin 4 ≃ Dev nD × Fin 4 where
  toFun x := (peer x.1 x.2, place x.1)
  invFun x := (peer x.1 x.2, place x.1)
  left_inv x := Prod.ext (peer_peer_place x.1 x.2) (place_peer x.1 x.2)
  right_inv x := Prod.ext (peer_peer_place x.1 x.2) (place_peer x.1 x.2)

/-- A printed device number, as a member of the line. -/
theorem dev_eq {c : Dev nD} {n : ℕ} (hn : n < nD) (t : Fin 4) (h : n = (peer c t).val) : (⟨n, hn⟩ : Dev nD) = peer c t := Fin.ext h

/-! ## Slabs -/

/-- The output staging buffer. -/
abbrev oM : Memref sig .tc .vmem S1024x256 .f32 := Memref.whole cc0_stg1_0
/-- The input staging buffer. -/
abbrev xM : Memref sig .tc .vmem S256x256 .f32 := Memref.whole cc0_stg0_0

theorem slab_inb (o : Fin 4) : ∀ a, (![256 * o.val, 0] : Fin 2 → ℕ) a + S256x256.size a ≤ S1024x256.size a := by
  revert o; decide

/-- Slab `o`'s rectangle: rows `256·o` to `256·o + 255`, all columns. -/
abbrev slabR (o : Fin 4) : Rect S1024x256 := Rect.unit ![256 * o.val, 0] S256x256.size (slab_inb o)

/-- Slab `o` of the output staging buffer. -/
abbrev slabM (o : Fin 4) : Memref sig .tc .vmem S256x256 .f32 := oM.slice (slabR o) (fun _ => rfl)

/-- Slab `o`'s elements. -/
abbrev slab (o : Fin 4) : Finset S1024x256.Idx := (slabM o).view.set

/-- An element is slab `o`'s when its row's quotient by 256 is `o`. -/
theorem mem_slab (o : Fin 4) (i : S1024x256.Idx) : i ∈ slab o ↔ (i 0).val / 256 = o.val := by
  show i ∈ ((View.whole cc0_stg1_0).slice (slabR o)).set ↔ _
  rw [View.set_slice_whole, Rect.mem_set_unit]
  have h1 : (i 1).val < 256 := (i 1).isLt
  constructor
  · intro h
    have h0 : 256 * o.val ≤ (i 0).val ∧ (i 0).val < 256 * o.val + 256 := h 0
    omega
  · intro h a
    match a with
    | ⟨0, _⟩ => show 256 * o.val ≤ (i 0).val ∧ (i 0).val < 256 * o.val + 256; omega
    | ⟨1, _⟩ => show 0 ≤ (i 1).val ∧ (i 1).val < 0 + 256; omega

/-- Different slabs share no element. -/
theorem slab_disjoint : ∀ o ∈ (Finset.univ : Finset (Fin 4)), ∀ o' ∈ (Finset.univ : Finset (Fin 4)), o ≠ o' → Disjoint (slab o) (slab o') := by
  intro o _ o' _ h
  refine Finset.disjoint_left.mpr fun i hi hi' => h (Fin.ext ?_)
  rw [← (mem_slab o i).mp hi, (mem_slab o' i).mp hi']

/-- The four slabs are the whole buffer. -/
theorem slab_cover : (Finset.univ : Finset (Fin 4)).biUnion slab = Finset.univ := by
  refine Finset.eq_univ_iff_forall.mpr fun i => ?_
  have h : (i 0).val < 1024 := (i 0).isLt
  exact Finset.mem_biUnion.mpr ⟨⟨(i 0).val / 256, by omega⟩, Finset.mem_univ _, (mem_slab _ i).mpr rfl⟩

/-- A slice of the output staging buffer at any spelling of slab `o`'s offset is slab `o`. -/
theorem slice_eq_slab {off : Fin 2 → ℕ} (o : Fin 4) (h : off = ![256 * o.val, 0]) (hb : ∀ a, off a + S256x256.size a ≤ S1024x256.size a) :
    (oM.slice (Rect.unit (s := S1024x256) off S256x256.size hb) (fun _ => rfl) : Memref sig .tc .vmem S256x256 .f32) = slabM o := by
  subst h; rfl

/-- The send semaphore of the copy to place `t`, and the receive semaphore of the copy from place `o`. -/
abbrev sendS (t : Fin 4) : DmaSem sig := ⟨2 + t.val, by have := t.isLt; show _ < 10; omega⟩
abbrev recvS (o : Fin 4) : DmaSem sig := ⟨6 + o.val, by have := o.isLt; show _ < 10; omega⟩

theorem sem_inb (t : Fin 4) : ∀ a, (![t.val] : Fin 1 → ℕ) a + S1.size a ≤ S4.size a := by revert t; decide

/-- The printed send semaphore at any spelling of index `t`. -/
theorem send_sem_eq {off : Fin 1 → ℕ} (t : Fin 4) (h : off = ![t.val]) (hb : ∀ a, off a + S1.size a ≤ S4.size a) :
    ((cc0_scratch0.slice (Rect.unit (s := S4) off S1.size hb)).squeeze S_ squeezes_S1_S_).sem = sendS t := by
  subst h; revert t; decide
/-- The printed receive semaphore at any spelling of index `o`. -/
theorem recv_sem_eq {off : Fin 1 → ℕ} (o : Fin 4) (h : off = ![o.val]) (hb : ∀ a, off a + S1.size a ≤ S4.size a) :
    ((cc0_scratch1.slice (Rect.unit (s := S4) off S1.size hb)).squeeze S_ squeezes_S1_S_).sem = recvS o := by
  subst h; revert o; decide

/-- What one slab's copy credits its semaphores. -/
abbrev N : ℕ := (slabM 0).view.dmaCredit
theorem N_pos : 0 < N := View.dmaCredit_pos _ (by decide)
/-- Every slab's copy credits the same. -/
theorem credit_slab (o : Fin 4) : (slabM o).view.dmaCredit = N := rfl

/-! ## The printed device numbers and offsets -/

/-- The signals and the copies of place `t` go to the device at place `t` of the own line. -/
theorem dev_val (c : Dev nD) :
    ((k0_dev1 c = (peer c 0).val) ∧ (k0_dev2 c = (peer c 1).val) ∧ (k0_dev3 c = (peer c 2).val) ∧ (k0_dev4 c = (peer c 3).val))
    ∧ ((k0_dev5 c = (peer c 0).val) ∧ (k0_dev6 c = (peer c 1).val) ∧ (k0_dev7 c = (peer c 2).val) ∧ (k0_dev8 c = (peer c 3).val)) := by
  revert c; decide

/-- The own slab's offset, at the store, at the copies and at the waits for them to leave, is the own place's. -/
theorem off_val (c : Dev nD) :
    (k0_off1 c = ![256 * (place c).val, 0])
    ∧ ((k0_off3 c = ![256 * (place c).val, 0]) ∧ (k0_off5 c = ![256 * (place c).val, 0]) ∧ (k0_off7 c = ![256 * (place c).val, 0]) ∧ (k0_off9 c = ![256 * (place c).val, 0]))
    ∧ ((k0_off10 c = ![256 * (place c).val, 0]) ∧ (k0_off11 c = ![256 * (place c).val, 0]) ∧ (k0_off12 c = ![256 * (place c).val, 0]) ∧ (k0_off13 c = ![256 * (place c).val, 0])) := by
  revert c; decide

/-- The receive semaphore a copy raises is the one for the own place. -/
theorem sem_val (c : Dev nD) :
    (k0_off2 c = ![(place c).val]) ∧ (k0_off4 c = ![(place c).val]) ∧ (k0_off6 c = ![(place c).val]) ∧ (k0_off8 c = ![(place c).val]) := by
  revert c; decide

/-! ## The branch conditions -/

/-- Every printed branch condition says that the device is not at the branch's place. -/
theorem cond_iff (c : Dev nD) :
    ((k0_cond1 c = 1#1 ↔ place c ≠ 0) ∧ (k0_cond2 c = 1#1 ↔ place c ≠ 1) ∧ (k0_cond3 c = 1#1 ↔ place c ≠ 2) ∧ (k0_cond4 c = 1#1 ↔ place c ≠ 3))
    ∧ ((k0_cond5 c = 1#1 ↔ place c ≠ 0) ∧ (k0_cond6 c = 1#1 ↔ place c ≠ 1) ∧ (k0_cond7 c = 1#1 ↔ place c ≠ 2) ∧ (k0_cond8 c = 1#1 ↔ place c ≠ 3))
    ∧ ((k0_cond13 c = 1#1 ↔ place c ≠ 0) ∧ (k0_cond14 c = 1#1 ↔ place c ≠ 1) ∧ (k0_cond15 c = 1#1 ↔ place c ≠ 2) ∧ (k0_cond16 c = 1#1 ↔ place c ≠ 3)) := by
  revert c; decide

/-- So does the condition of the four receive branches, which is computed where it stands. -/
theorem cond_recv_iff (c : Dev nD) (t : Fin 4) :
    Scalar.cmpi .ne (Scalar.extui (Scalar.cmpi .ne (Scalar.remsi (Scalar.divsi (Dev.word c) 1#32) 4#32) (BitVec.ofNat 32 t.val)) : BitVec 32) 0#32 = 1#1
      ↔ place c ≠ t := by
  revert c t; decide

/-! ## Contents -/

variable {F : FTy → Type} [FloatOps F]
variable (m : (ℓ : Loc nD τ sig) → Buf (Elt F) ℓ)

/-- Device `c`'s argument at launch. -/
def arg (c : Dev nD) : S256x256.Idx → Elt F .f32 := m ((c : Thread nD τ).loc main_arg0)

set_option backward.proofsInPublic true in
/-- What device `c`'s output should hold: row `r` is row `r % 256` of the argument of the device at place `r / 256`. -/
def gath (c : Dev nD) : S1024x256.Idx → Elt F .f32 := fun i =>
  arg m (peer c ⟨(i 0).val / 256, by have h : (i 0).val < 1024 := (i 0).isLt; omega⟩)
    (Shape.pair ⟨(i 0).val % 256, Nat.mod_lt _ (by decide)⟩ ⟨(i 1).val, (i 1).isLt⟩)

omit [FloatOps F] in
/-- It is the same along a line. -/
theorem gath_peer (c : Dev nD) (t : Fin 4) : gath m (peer c t) = gath m c := by
  funext i; unfold gath; rw [peer_peer]

omit [FloatOps F] in
/-- Slab `o` of it is the argument of the device at place `o`. -/
theorem gath_slab (c : Dev nD) (o : Fin 4) (x : S256x256.Idx) : gath m c ((slabR o).emb x) = arg m (peer c o) x := by
  have h0 : (((slabR o).emb x) 0).val = 256 * o.val + 1 * (x 0).val := rfl
  have h1 : (((slabR o).emb x) 1).val = 0 + 1 * (x 1).val := rfl
  have hx : (x 0).val < 256 := (x 0).isLt
  unfold gath
  have e1 : (⟨(((slabR o).emb x) 0).val / 256, by have h : (((slabR o).emb x) 0).val < 1024 := (((slabR o).emb x) 0).isLt; omega⟩ : Fin 4) = o :=
    Fin.ext (by show (((slabR o).emb x) 0).val / 256 = o.val; rw [h0]; omega)
  rw [e1]
  congr 1
  conv_rhs => rw [← Shape.pair_eta x]
  congr 1
  · exact Fin.ext (by show (((slabR o).emb x) 0).val % 256 = (x 0).val; rw [h0]; omega)
  · exact Fin.ext (by show (((slabR o).emb x) 1).val = (x 1).val; rw [h1]; omega)

omit [FloatOps F] in
/-- Storing a device's argument over its own slab leaves that slab as `gath` has it, whatever was there. -/
theorem store_slab (c : Dev nD) (o : Fin 4) (ho : peer c o = c) (f : S1024x256.Idx → Elt F .f32) :
    ∀ i ∈ slab o, (slabM o).view.write (Elt F) f (arg m c) Finset.univ i = gath m c i := by
  intro i hi
  obtain ⟨x, -, rfl⟩ := Finset.mem_map.mp hi
  rw [View.write_emb_of_mem _ _ (Finset.mem_univ x)]
  exact ((gath_slab m c o x).trans (by rw [ho]; rfl)).symm

omit [FloatOps F] in
/-- Copying slab `o` over slab `o` makes the target agree with the source there. -/
theorem copy_slab (o : Fin 4) (f g : S1024x256.Idx → Elt F .f32) :
    ∀ i ∈ slab o, (slabM o).view.write (Elt F) f ((slabM o).view.read (Elt F) g) Finset.univ i = g i := by
  intro i hi
  rw [View.write_read_eq_piecewise]
  exact Finset.piecewise_eq_of_mem _ _ _ hi

end Cert.Gather

end
-- ==== Proof.Sched.lean ====
/-
The protocol of the gather kernel: who may raise which semaphore, by how much, and what is handed over with it.

Every device has nine semaphores that take part, each used for one round only.

* The barrier semaphore is raised once by each of the three other devices of the line. The device at place
  `d` hands over, with its unit, that slab of its own output buffer which the receiver will write.
* The send semaphore of place `t` is raised by the device's own copy to place `t`, and gives back the share
  of the device's own slab that was lent to that copy.
* The receive semaphore of place `o` is raised by the copy from place `o`, and gives slab `o`, filled.

A device owes its line one unit on each of three barriers and one copy on each of three receive semaphores.
Barriers come before receive semaphores in the order of waits, so nobody waits in a circle.
-/
module

public import proofs.«01_k».proof.Proof.Line

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- The ghost state of the protocol (its duties are named by places), beside the pipeline library's. -/
abbrev UL : Type := URounds (GSem nD τ sig) (Fin 4)
abbrev UU : Type := UR sig nD τ × UL

local notation "𝕄" => MT nD τ sig Unit (Elt F) ℕ UU ℕ

abbrev EP : Emb (UR sig nD τ) (MT nD τ sig Unit (Elt F) ℕ UU ℕ) := embL
abbrev EL : Emb UL (MT nD τ sig Unit (Elt F) ℕ UU ℕ) := embR

variable (m : (ℓ : Loc nD τ sig) → Buf (Elt F) ℓ)

/-! ## The semaphores -/

/-- The barrier semaphore. -/
abbrev barS : Sem sig := (SemArray.scalar (sig.barrier 0 rfl) : Sems sig S_).sem

/-- The nine semaphores of a device: the barrier, four send semaphores, four receive semaphores. -/
abbrev Ix9 : Type := Unit ⊕ (Fin 4 ⊕ Fin 4)
abbrev semOf : Ix9 → SemLoc sig := Sum.elim (fun _ => .reg barS) (Sum.elim (fun t => .dma (sendS t)) (fun o => .dma (recvS o)))
abbrev cellOf9 (x : Dev nD × Ix9) : GSem nD τ sig := ((x.1 : Thread nD τ), semOf x.2)
abbrev barCell (c : Dev nD) : GSem nD τ sig := cellOf9 (c, .inl ())
abbrev sendCell (c : Dev nD) (t : Fin 4) : GSem nD τ sig := cellOf9 (c, .inr (.inl t))
abbrev recvCell (c : Dev nD) (o : Fin 4) : GSem nD τ sig := cellOf9 (c, .inr (.inr o))

theorem semOf_injective : Function.Injective semOf := by decide
theorem cellOf9_injective : Function.Injective cellOf9 := by
  rintro ⟨c, k⟩ ⟨c', k'⟩ h
  have h1 : c = c' := congrArg (fun g : GSem nD τ sig => g.1.1) h
  have h2 : k = k' := semOf_injective (congrArg Prod.snd h)
  rw [h1, h2]

/-! ## What is handed over -/

/-- Slab `o` of device `c`'s output buffer, at share `q`, holding what `f` has there. -/
def slabAt (c : Dev nD) (o : Fin 4) (q : PosShare TreeShare) (f : S1024x256.Idx → Elt F .f32) : sProp 𝕄 :=
  (slabM o).view.loc (c : Thread nD τ) ↦[(slabM o).view.set]{q} (f : Buf (Elt F) ((slabM o).view.loc (c : Thread nD τ)))

/-- The share of its own slab a device lends to its copy to place `t`: one of four equal parts. -/
def lent (t : Fin 4) : PosShare TreeShare := ShareLeaves.leaf 2 fullShare t

/-- What the device at place `d` hands `c` at the barrier: slab `place c` of its output, in any state. -/
def barPay (c : Dev nD) (d : Fin 4) : sProp 𝕄 := iprop(∃ f, slabAt (peer c d) (place c) fullShare f)
/-- What the copy to place `t` gives back. -/
def sendPay (c : Dev nD) (t : Fin 4) : sProp 𝕄 := slabAt c (place c) (lent t) (gath m c)
/-- What the copy from place `o` brings. -/
def recvPay (c : Dev nD) (o : Fin 4) : sProp 𝕄 := slabAt c o fullShare (gath m c)

instance slabAt_storable (c : Dev nD) (o : Fin 4) (q : PosShare TreeShare) (f : S1024x256.Idx → Elt F .f32) :
    BI.Storable (upEmb : UEmb _ 𝕄) (slabAt (F := F) c o q f) := by unfold slabAt; infer_instance

/-! ## The schedule -/

/-- The place a send or receive semaphore is for. -/
def slot (q : DmaSem sig) : Fin 4 := ⟨(q.val + 2) % 4, Nat.mod_lt _ (by decide)⟩
theorem slot_send (t : Fin 4) : slot (sendS t) = t := by revert t; decide
theorem slot_recv (o : Fin 4) : slot (recvS o) = o := by revert o; decide

/-- The duties of one of device `c`'s semaphores: at the barrier, the three other places; at a send or receive
    semaphore of another place, one. -/
def dutiesAt (c : Dev nD) : SemLoc sig → Finset (Fin 4)
  | .reg _ => Finset.univ.erase (place c)
  | .dma q => if q.val < 2 ∨ slot q = place c then ∅ else {0}

/-- What goes with a duty. -/
def payAt (c : Dev nD) : SemLoc sig → Fin 4 → sProp 𝕄
  | .reg _, d => barPay c d
  | .dma q, _ => if q.val < 6 then sendPay m c (slot q) else recvPay m c (slot q)

/-- The units of a duty. -/
def amountAt : SemLoc sig → ℕ
  | .reg _ => 1
  | .dma _ => N

/-- The schedule: round 0 has the duties above, no later round has any. -/
def sched : Rounds.Schedule (GSem nD τ sig) (Fin 4) 𝕄 where
  duties g r := if r = 0 ∧ g.1.2 = .tc then dutiesAt g.1.1 g.2 else ∅
  unitless _ := False
  amount g _ _ := amountAt g.2
  payload g _ d := payAt m g.1.1 g.2 d
  amount_pos g _ _ _ := by
    cases h : g.2 with
    | reg s => exact Nat.one_pos
    | dma q => exact N_pos

instance sched_storable (g : GSem nD τ sig) (r : ℕ) (d : Fin 4) :
    BI.Storable (upEmb : UEmb _ 𝕄) ((sched (F := F) m).payload g r d) := by
  show BI.Storable upEmb (payAt m g.1.1 g.2 d)
  cases g.2 with
  | reg s => show BI.Storable upEmb (barPay g.1.1 d); unfold barPay; infer_instance
  | dma q =>
    show BI.Storable upEmb (if q.val < 6 then sendPay m g.1.1 (slot q) else recvPay m g.1.1 (slot q))
    unfold sendPay recvPay; split <;> infer_instance

section Rounds
variable (c : Dev nD)

omit [FloatOps F] in
theorem duties_zero (sm : SemLoc sig) : (sched (F := F) m).duties ((c : Thread nD τ), sm) 0 = dutiesAt c sm := by
  show (if (0 : ℕ) = 0 ∧ (c : Thread nD τ).2 = .tc then dutiesAt c sm else ∅) = _
  rw [if_pos ⟨rfl, rfl⟩]
omit [FloatOps F] in
theorem duties_bar : (sched (F := F) m).duties (barCell c) 0 = Finset.univ.erase (place c) := duties_zero m c _
omit [FloatOps F] in
/-- A send or receive semaphore, by its place. -/
theorem duties_dma (q : DmaSem sig) (hq : ¬ q.val < 2) :
    (sched (F := F) m).duties ((c : Thread nD τ), .dma q) 0 = if slot q = place c then ∅ else {0} := by
  refine (duties_zero m c _).trans ?_
  show (if q.val < 2 ∨ slot q = place c then ∅ else {0}) = _
  simp only [hq, false_or]
omit [FloatOps F] in
theorem duties_send (t : Fin 4) : (sched (F := F) m).duties (sendCell c t) 0 = if t = place c then ∅ else {0} := by
  have h := duties_dma m c (sendS t) (by show ¬ 2 + t.val < 2; omega)
  rw [slot_send] at h; exact h
omit [FloatOps F] in
theorem duties_recv (o : Fin 4) : (sched (F := F) m).duties (recvCell c o) 0 = if o = place c then ∅ else {0} := by
  have h := duties_dma m c (recvS o) (by show ¬ 6 + o.val < 2; omega)
  rw [slot_recv] at h; exact h
omit [FloatOps F] in
theorem duties_later (g : GSem nD τ sig) : ∀ r, 1 ≤ r → (sched (F := F) m).duties g r = ∅ :=
  fun r hr => if_neg fun h => by omega
omit [FloatOps F] in
/-- A semaphore without duties at round 0 has none at all. -/
theorem duties_none {g : GSem nD τ sig} (h : (sched (F := F) m).duties g 0 = ∅) : ∀ r, 0 ≤ r → (sched (F := F) m).duties g r = ∅
  | 0, _ => h
  | r + 1, _ => duties_later m g (r + 1) (by omega)

omit [FloatOps F] in
theorem payload_bar (d : Fin 4) : (sched (F := F) m).payload (barCell c) 0 d = barPay c d := rfl
omit [FloatOps F] in
theorem payload_send (t d : Fin 4) : (sched (F := F) m).payload (sendCell c t) 0 d = sendPay m c t := by
  show (if 2 + t.val < 6 then sendPay m c (slot (sendS t)) else recvPay m c (slot (sendS t))) = _
  rw [if_pos (by have := t.isLt; omega), slot_send]
omit [FloatOps F] in
theorem payload_recv (o d : Fin 4) : (sched (F := F) m).payload (recvCell c o) 0 d = recvPay m c o := by
  show (if 6 + o.val < 6 then sendPay m c (slot (recvS o)) else recvPay m c (slot (recvS o))) = _
  rw [if_neg (by omega), slot_recv]

omit [FloatOps F] in
/-- A barrier's round is three units, -/
theorem expect_bar : (sched (F := F) m).expect (barCell c) 0 = 3 := by
  unfold Schedule.expect Schedule.amountOf
  rw [duties_bar]
  show ∑ _d ∈ Finset.univ.erase (place c), 1 = 3
  generalize place c = t
  revert t; decide
omit [FloatOps F] in
/-- any used send or receive semaphore's one copy. -/
theorem expect_dma {q : DmaSem sig} (h : (sched (F := F) m).duties ((c : Thread nD τ), .dma q) 0 = {0}) :
    (sched (F := F) m).expect ((c : Thread nD τ), .dma q) 0 = N := by
  unfold Schedule.expect Schedule.amountOf
  rw [h, Finset.sum_singleton]; rfl

/-- What `c` has of the slab it will write on the device at place `t` (nothing at its own place). -/
def landing (t : Fin 4) : sProp 𝕄 := if place c ≠ t then barPay c t else iprop(emp)

omit [FloatOps F] in
/-- The rest of a barrier's round, nothing taken yet: all three slabs. -/
theorem rest_bar : bigSep ((sched (F := F) m).duties (barCell c) 0 \ ∅) (fun d => (sched (F := F) m).payload (barCell c) 0 d)
    = bigSep Finset.univ (landing (F := F) c) := by
  rw [Finset.sdiff_empty, duties_bar, show Finset.univ.erase (place c) = Finset.univ.filter (fun t => place c ≠ t) from by
    ext t; simp [eq_comm], bigSep_filter]
  rfl
omit [FloatOps F] in
/-- The rest of a round that has the one duty. -/
theorem rest_one {g : GSem nD τ sig} (h : (sched (F := F) m).duties g 0 = {0}) :
    bigSep ((sched (F := F) m).duties g 0 \ ∅) (fun d => (sched (F := F) m).payload g 0 d) = (sched (F := F) m).payload g 0 0 := by
  rw [Finset.sdiff_empty, h, bigSep_singleton]

end Rounds

/-! ## What a device owes, and the order of waits -/

/-- The unit `c` owes the barrier at place `t`. -/
def oweSig (c : Dev nD) (t : Fin 4) : CellTallies nD τ sig Unit := if place c ≠ t then tallyAt (barCell (peer c t)) () 1 else 0
/-- The copy `c` owes the receive semaphore at place `t` that is for `c`. -/
def oweSend (c : Dev nD) (t : Fin 4) : CellTallies nD τ sig Unit := if place c ≠ t then tallyAt (recvCell (peer c t) (place c)) () N else 0

/-- What `c` owes once it has signalled: its copies, the first made the last summand. -/
def oweSends (c : Dev nD) : CellTallies nD τ sig Unit := 0 + oweSend c 3 + oweSend c 2 + oweSend c 1 + oweSend c 0
/-- What `c` owes at launch. -/
def O₀ (c : Dev nD) : CellTallies nD τ sig Unit := oweSends c + oweSig c 3 + oweSig c 2 + oweSig c 1 + oweSig c 0

/-- The indices with a level: each semaphore of a core has one. -/
def L (g : GSem nD τ sig) : Finset Unit := if g.1.2 = .tc then {()} else ∅
/-- Barriers at level 1, receive semaphores at 2, everything else at 0. -/
def lv (g : GSem nD τ sig) (_ : Unit) : ℕ := match g.2 with
  | .reg _ => 1
  | .dma q => if q.val < 6 then 0 else 2

theorem L_of_ne (g : GSem nD τ sig) (h : g.1.2 ≠ .tc) : L g = ∅ := if_neg h
theorem L_tc (c : Dev nD) (sm : SemLoc sig) : L ((c : Thread nD τ), sm) = {()} := if_pos rfl

/-- The unit owed at place `t`, cell by cell. -/
theorem oweSig_apply (c : Dev nD) (t : Fin 4) (g : GSem nD τ sig) :
    oweSig c t g () = if place c ≠ t ∧ g = barCell (peer c t) then 1 else 0 := by
  unfold oweSig
  by_cases h : place c ≠ t
  · rw [if_pos h, tallyAt_apply]; simp only [h, true_and, and_true, ne_eq, not_false_eq_true]
  · rw [if_neg h, if_neg fun h' => h h'.1]; rfl
/-- The copy owed at place `t`, cell by cell. -/
theorem oweSend_apply (c : Dev nD) (t : Fin 4) (g : GSem nD τ sig) :
    oweSend c t g () = if place c ≠ t ∧ g = recvCell (peer c t) (place c) then N else 0 := by
  unfold oweSend
  by_cases h : place c ≠ t
  · rw [if_pos h, tallyAt_apply]; simp only [h, true_and, and_true, ne_eq, not_false_eq_true]
  · rw [if_neg h, if_neg fun h' => h h'.1]; rfl
theorem oweSends_apply (c : Dev nD) (g : GSem nD τ sig) : oweSends c g () = ∑ t : Fin 4, oweSend c t g () := by
  unfold oweSends
  simp only [Pi.add_apply, Finsupp.add_apply, Pi.zero_apply, Finsupp.zero_apply, Fin.sum_univ_four]; omega
theorem O₀_apply (c : Dev nD) (g : GSem nD τ sig) : O₀ c g () = (∑ t : Fin 4, oweSend c t g ()) + ∑ t : Fin 4, oweSig c t g () := by
  rw [← oweSends_apply]; unfold O₀
  simp only [Pi.add_apply, Finsupp.add_apply, Fin.sum_univ_four]; omega

/-- Whatever is owed as copies is owed to receive semaphores, -/
theorem oweSends_pos {c : Dev nD} {g : GSem nD τ sig} (h : 0 < oweSends c g ()) : ∃ t o, g = recvCell (peer c t) o := by
  rw [oweSends_apply] at h
  obtain ⟨t, -, ht⟩ := Finset.exists_ne_zero_of_sum_ne_zero (Nat.pos_iff_ne_zero.mp h)
  rw [oweSend_apply] at ht
  by_cases hc : place c ≠ t ∧ g = recvCell (peer c t) (place c)
  · exact ⟨t, _, hc.2⟩
  · exact absurd (if_neg hc) ht
/-- and everything owed at launch to barriers or receive semaphores. -/
theorem O₀_pos {c : Dev nD} {g : GSem nD τ sig} (h : 0 < O₀ c g ()) : (∃ t o, g = recvCell (peer c t) o) ∨ ∃ t, g = barCell (peer c t) := by
  rw [O₀_apply, ← oweSends_apply] at h
  rcases Nat.eq_zero_or_pos (oweSends c g ()) with h0 | h0
  · rw [h0, Nat.zero_add] at h
    obtain ⟨t, -, ht⟩ := Finset.exists_ne_zero_of_sum_ne_zero (Nat.pos_iff_ne_zero.mp h)
    rw [oweSig_apply] at ht
    by_cases hc : place c ≠ t ∧ g = barCell (peer c t)
    · exact .inr ⟨t, hc.2⟩
    · exact absurd (if_neg hc) ht
  · exact .inl (oweSends_pos h0)

theorem lv_recv (c : Dev nD) (o : Fin 4) : lv (recvCell c o) () = 2 := by
  show (if 6 + o.val < 6 then 0 else 2) = 2; rw [if_neg (by omega)]
theorem lv_bar (c : Dev nD) : lv (barCell c) () = 1 := rfl

omit [FloatOps F] in
/-- A core may wait on a semaphore when everything it owes is to cores' semaphores of a higher level. -/
theorem mayWait_below (c : Dev nD) (sm : SemLoc sig) (b : ℕ) (hb : lv ((c : Thread nD τ), sm) () ≤ b) (O : CellTallies nD τ sig Unit)
    (hO : ∀ g, 0 < O g () → (∃ (d : Dev nD) (s : SemLoc sig), g = ((d : Thread nD τ), s)) ∧ b < lv g ()) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨⟨d, s, rfl⟩, -⟩ := hO g hg; rw [L_tc]; exact Finset.mem_singleton_self _)
    (fun p hp => by rw [Finset.mem_singleton.mp hp]; exact hb)
    (fun g u hg => (hO g hg).2)

omit [FloatOps F] in
/-- At the barrier a device owes copies only, and may wait. -/
theorem mayWait_bar (c : Dev nD) : (levAts L lv : sProp 𝕄) ⊢ MayWait (c : Thread nD τ) (.reg barS) () (oweSends c) :=
  mayWait_below c _ 1 le_rfl _ fun g hg => by
    obtain ⟨t, o, rfl⟩ := oweSends_pos hg
    exact ⟨⟨_, _, rfl⟩, by rw [lv_recv]; decide⟩
omit [FloatOps F] in
/-- The pipeline may wait for its own staging copies before and after the body. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O :=
  mayWait_below c _ 0 (by show (if q.val < 6 then 0 else 2) ≤ 0; rw [if_pos hq]) _ fun g hg => by
    rcases hO with rfl | rfl
    · rcases O₀_pos hg with ⟨t, o, rfl⟩ | ⟨t, rfl⟩
      · exact ⟨⟨_, _, rfl⟩, by rw [lv_recv]; decide⟩
      · exact ⟨⟨_, _, rfl⟩, by rw [lv_bar]; decide⟩
    · exact absurd hg (Nat.lt_irrefl 0)

end Cert.Gather

end
-- ==== Proof.Steps.lean ====
/-
One step of the gather kernel at a time.

The kernel repeats four steps for each place `t` of the line, each under "the device is not at place `t`":
raise the barrier at place `t`, copy the own slab to place `t`, wait for the copy from place `t`, wait for the
own copy to place `t` to have left. Each theorem here is one such step, branch included: what it takes, what it
leaves. The branch and what stands in it are variables, so one theorem serves all four places.
-/
module

public import proofs.«01_k».proof.Proof.Sched

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What everyone may know -/

/-- Every semaphore follows the schedule, under the names `K`, and stands at its first round or later. -/
def records (K : Dev nD × Ix9 → ℕ) : sProp 𝕄 :=
  iprop((bigSep Finset.univ fun x : Dev nD × Ix9 => cellInv EL (sched m) (K x) (cellOf9 x))
    ∗ bigSep Finset.univ fun x : Dev nD × Ix9 => reached EL (cellOf9 x) 0)

instance records_persistent (K : Dev nD × Ix9 → ℕ) : BI.Persistent (records m K) := by unfold records; infer_instance

omit [FloatOps F] in
theorem records_inv (K : Dev nD × Ix9 → ℕ) (x : Dev nD × Ix9) : records m K ⊢ cellInv EL (sched m) (K x) (cellOf9 x) := by
  unfold records
  exact sep_elim_left.trans (bigSep_elim (Finset.mem_univ x))
omit [FloatOps F] in
theorem records_reached (K : Dev nD × Ix9 → ℕ) (x : Dev nD × Ix9) : records m K ⊢ reached EL (cellOf9 x) 0 := by
  unfold records
  exact sep_elim_right.trans (bigSep_elim (Finset.mem_univ x))

/-! ## What a device has between steps -/

variable (c : Dev nD)

/-- Slab `t` of the own output, to be handed to the device at place `t` (nothing at the own place). -/
def handout (t : Fin 4) : sProp 𝕄 := if place c ≠ t then iprop(∃ f, slabAt c t fullShare f) else iprop(emp)
/-- The claim on the copy to place `t`, or, at the own place, the share that no copy took. -/
def away (t : Fin 4) : sProp 𝕄 := if place c ≠ t then cred (tallyAt (sendCell c t) () N) else sendPay m c t
/-- The claim on the copy from place `o` (nothing at the own place). -/
def due (o : Fin 4) : sProp 𝕄 := cred (tallyAt (recvCell c o) () (if place c ≠ o then N else 0))
/-- Slab `o`, filled, once the copy from place `o` is in (nothing at the own place, which no copy fills). -/
def got (o : Fin 4) : sProp 𝕄 := if place c ≠ o then recvPay m c o else iprop(emp)
/-- The start of the own semaphore `k`, nothing received there yet. -/
abbrev fresh (k : Ix9) : sProp 𝕄 := atPos EL (cellOf9 (c, k)) 0 ∅ 0
/-- The own semaphore `k` at zero, its protocol over. -/
abbrev idle (k : Ix9) : sProp 𝕄 := semVal (cellOf9 (c, k)) 0

variable (K : Dev nD × Ix9 → ℕ)
variable {α : Type}
variable {c}

/-! ## The barrier -/

/-- A unit raised on the barrier at place `t`, handing over slab `t`. -/
theorem raise_peer {n : Dev nD} {t : Fin 4} (hn : n = peer c t) (ht : place c ≠ t) (k : Prog (TpuEff nD τ sig (Elt F) Λ₀ .tc) α) (Kt : α → sProp 𝕄)
    (O : CellTallies nD τ sig Unit) (W : Waits sig Unit) :
    iprop(records m K ∗ owes (c : Thread nD τ) (O + oweSig c t) W ∗ dutyTok EL (barCell (peer c t)) 0 (place c) ∗ handout c t)
      ⊢ iprop((owes (c : Thread nD τ) O W -∗ wp frame (wpE (defs₀ (F := F)) 𝒱₀ (c : Thread nD τ) none) Set.univ k Kt)
          -∗ wp frame (wpE (defs₀ (F := F)) 𝒱₀ (c : Thread nD τ) none) Set.univ (do semSignalWord n barS 1#32; k) Kt) := by
  subst hn
  simp only [semSignalWord, Prog.bind_op, Prog.bind_ret]
  unfold oweSig handout
  rw [if_pos ht, if_pos ht]
  iintro ⟨#HR, HO, Htok, %f, Hs⟩ Hk
  iapply (Rounds.wp_signal 𝒱₀ EL (sched m) (c : Thread nD τ) none (dst := (peer c t : Thread nD τ)) (sem := barS) (κ := K (peer c t, .inl ())) (r := 0)
      (d := place c) (k := fun _ => k) (by rw [show ((peer c t : Thread nD τ), SemLoc.reg barS) = barCell (peer c t) from rfl, duties_bar, place_peer]; exact Finset.mem_erase.mpr ⟨ht, Finset.mem_univ _⟩)
      rfl () O rfl) $$ [HO Htok Hs]
  · isplitr; · iapply (records_inv m K (peer c t, .inl ())); iexact HR
    isplitl [HO]; · iexact HO
    isplitl [Htok]; · iexact Htok
    isplitl [Hs]
    · rw [show ((peer c t : Thread nD τ), SemLoc.reg barS) = barCell (peer c t) from rfl, payload_bar]
      unfold barPay; rw [peer_peer_place, place_peer]
      iexists f; iexact Hs
    iapply (records_reached m K (peer c t, .inl ())); iexact HR
  iexact Hk

/-- The signal step of place `t`. -/
theorem step_signal {t : Fin 4} {b : BitVec 1} (hb : b = 1#1 ↔ place c ≠ t) {n : b = 1#1 → Dev nD} (hn : ∀ h, n h = peer c t)
    {k : Prog (TpuEff nD τ sig (Elt F) Λ₀ .tc) α} {Kt : α → sProp 𝕄} (O : CellTallies nD τ sig Unit) (W : Waits sig Unit) :
    iprop(records m K ∗ owes (c : Thread nD τ) (O + oweSig c t) W ∗ dutyTok EL (barCell (peer c t)) 0 (place c) ∗ handout c t)
      ⊢ iprop((owes (c : Thread nD τ) O W -∗ wp frame (wpE (defs₀ (F := F)) 𝒱₀ (c : Thread nD τ) none) Set.univ k Kt)
          -∗ wp frame (wpE (defs₀ (F := F)) 𝒱₀ (c : Thread nD τ) none) Set.univ
            (if h : b = 1#1 then (do semSignalWord (n h) barS 1#32; k) else k) Kt) := by
  by_cases h : b = 1#1
  · rw [dif_pos h]
    exact raise_peer m K (hn h) (hb.mp h) k Kt O W
  · rw [dif_neg h]
    unfold oweSig
    rw [if_neg (fun h' => h (hb.mpr h')), add_zero]
    iintro ⟨-, HO, -⟩ Hk
    iapply Hk; iexact HO

/-- The wait for all three signals: the slabs to write on the other devices come with it. -/
theorem step_barrier {k : PUnit → Prog (TpuEff nD τ sig (Elt F) Λ₀ .tc) α} {Kt : α → sProp 𝕄} (W : Waits sig Unit) :
    iprop(records m K ∗ levAts L lv ∗ owes (c : Thread nD τ) (oweSends c) W ∗ fresh c (.inl ()) ∗ cred (tallyAt (barCell c) () 3))
      ⊢ iprop(((∃ W, owes (c : Thread nD τ) (oweSends c) W) ∗ idle c (.inl ()) ∗ bigSep Finset.univ (landing (F := F) c)
            -∗ wp frame (wpE (defs₀ (F := F)) 𝒱₀ (c : Thread nD τ) none) Set.univ (k ⟨⟩) Kt)
          -∗ wp frame (wpE (defs₀ (F := F)) 𝒱₀ (c : Thread nD τ) none) Set.univ (semWaitWord barS 3#32 >>= k) Kt) := by
  simp only [semWaitWord, Prog.bind_op, Prog.bind_ret]
  iintro ⟨#HR, #Hlev, HO, Hat, Hc⟩ Hk
  iapply (Rounds.wp_wait_rest_token 𝒱₀ EL (sched m) (c : Thread nD τ) none (κ := K (c, .inl ()))
      (wpE_semWait_eq 𝒱₀ (c : Thread nD τ) none Set.univ) (Set.mem_univ _) () (O := oweSends c) (W := W) (R := 0) (m := 0) (T := ∅)
      (by show 0 + 3 = (sched m).expect (barCell c) 0; rw [expect_bar])) $$ [Hc HO Hat]
  · isplitr; · iapply (records_inv m K (c, .inl ())); iexact HR
    isplitl [Hc]; · iexact Hc
    isplitl [HO]; · iexact HO
    isplitr; · iapply (mayWait_bar c); iexact Hlev
    iexact Hat
  iintro ⟨HO, Hat, -, Hpay⟩
  ihave Hl := (show bigSep ((sched m).duties ((c : Thread nD τ), .reg barS) 0 \ ∅) (fun d => (sched m).payload ((c : Thread nD τ), .reg barS) 0 d) ⊢ _
    from Entails.of_eq (rest_bar m c)) $$ Hpay
  imod (Rounds.cell_close EL (sched m) (Set.mem_univ (K (c, .inl ()))) (fun h => h) (R := 0 + 1) (duties_later m (barCell c))) $$ [Hat] with Hz
  · isplitr; · iapply (records_inv m K (c, .inl ())); iexact HR
    iexact Hat
  iapply Hk
  isplitl [HO]; · iexists _; iexact HO
  isplitl [Hz]; · iexact Hz
  iexact Hl

/-! ## The copies -/

/-- The own slab copied to place `t`. -/
theorem copy_peer {n : Dev nD} {t : Fin 4} (hn : n = peer c t) (ht : place c ≠ t)
    {M : Memref sig .tc .vmem S256x256 .f32} (hM : M = slabM (place c))
    {sS rS : DmaSem sig} (hsS : sS = sendS t) (hrS : rS = recvS (place c))
    {hsc : (M : Memref sig (Dev.tc n : Thread nD τ).2.kind .vmem S256x256 .f32).view.ref.isScScratch = false}
    {hsrc : M.view.WordExact} {hdst : M.view.WordExact}
    {hsem : DmaTarget.Typed .vmem (.dma rS) (.remote (Dev.tc n : Thread nD τ) M (.dma sS) hsc)}
    (k : Prog (TpuEff nD τ sig (Elt F) Λ₀ .tc) α) (Kt : α → sProp 𝕄) (O : CellTallies nD τ sig Unit) (W : Waits sig Unit) :
    iprop(records m K ∗ owes (c : Thread nD τ) (O + oweSend c t) W ∗ dutyTok EL (sendCell c t) 0 0
        ∗ dutyTok EL (recvCell (peer c t) (place c)) 0 0 ∗ sendPay m c t ∗ landing c t)
      ⊢ iprop((owes (c : Thread nD τ) O W ∗ away m c t -∗ wp frame (wpE (defs₀ (F := F)) 𝒱₀ (c : Thread nD τ) none) Set.univ k Kt)
          -∗ wp frame (wpE (defs₀ (F := F)) 𝒱₀ (c : Thread nD τ) none) Set.univ
            (do Prog.lift (.enqueueDma M (.remote (Dev.tc n : Thread nD τ) M (.dma sS) hsc) (.dma rS) hsrc hdst hsem); k) Kt) := by
  subst hn hM hsS hrS
  simp only [Prog.lift, Prog.bind_op, Prog.bind_ret]
  unfold oweSend away landing barPay sendPay slabAt
  rw [if_pos ht, if_pos ht, if_pos ht]
  iintro ⟨#HR, HO, HtS, HtV, Hsrc, %g, Hdst⟩ Hk
  iapply (Rounds.wp_send_pointsTo 𝒱₀ EL (sched m) (c : Thread nD τ) none (κ₁ := K (c, .inr (.inl t))) (κ₂ := K (peer c t, .inr (.inr (place c))))
    (r₁ := 0) (r₂ := 0) (d₁ := 0) (d₂ := 0) (q := lent t) (fs := gath m c) (fd := g) (k := fun _ => k)
    (by rw [show ((c : Thread nD τ), SemLoc.dma (sendS t)) = sendCell c t from rfl, duties_send, if_neg (Ne.symm ht)]; exact Finset.mem_singleton_self _)
    (by rw [show ((peer c t : Thread nD τ), SemLoc.dma (recvS (place c))) = recvCell (peer c t) (place c) from rfl, duties_recv, place_peer, if_neg ht]
        exact Finset.mem_singleton_self _)
    () () N rfl rfl rfl O rfl (W := W)
    (by rw [show ((c : Thread nD τ), SemLoc.dma (sendS t)) = sendCell c t from rfl, payload_send]; unfold sendPay slabAt; exact BI.Entails.refl _)
    (by
      rw [show ((peer c t : Thread nD τ), SemLoc.dma (recvS (place c))) = recvCell (peer c t) (place c) from rfl, payload_recv]
      unfold recvPay slabAt
      rw [gath_peer]
      exact Entails.of_eq (pointsTo_congr (copy_slab (place c) g (gath m c))))) $$ [HO HtS HtV Hsrc Hdst]
  · isplitr; · iapply (records_inv m K (c, .inr (.inl t))); iexact HR
    isplitr; · iapply (records_inv m K (peer c t, .inr (.inr (place c)))); iexact HR
    isplitl [Hsrc]; · iexact Hsrc
    isplitl [Hdst]; · iexact Hdst
    isplitl [HO]; · iexact HO
    isplitl [HtS]; · iexact HtS
    isplitr; · iapply (records_reached m K (c, .inr (.inl t))); iexact HR
    isplitl [HtV]; · iexact HtV
    iapply (records_reached m K (peer c t, .inr (.inr (place c)))); iexact HR
  iintro ⟨Hc, HO⟩
  iapply Hk
  isplitl [HO]; · iexact HO
  iexact Hc

/-- The copy step of place `t`. -/
theorem step_send {t : Fin 4} {b : BitVec 1} (hb : b = 1#1 ↔ place c ≠ t) {n : b = 1#1 → Dev nD} (hn : ∀ h, n h = peer c t)
    {M : b = 1#1 → Memref sig .tc .vmem S256x256 .f32} (hM : ∀ h, M h = slabM (place c))
    {sS rS : b = 1#1 → DmaSem sig} (hsS : ∀ h, sS h = sendS t) (hrS : ∀ h, rS h = recvS (place c))
    {hsc : ∀ h, (M h : Memref sig (Dev.tc (n h) : Thread nD τ).2.kind .vmem S256x256 .f32).view.ref.isScScratch = false}
    {hsrc : ∀ h, (M h).view.WordExact} {hdst : ∀ h, (M h).view.WordExact}
    {hsem : ∀ h, DmaTarget.Typed .vmem (.dma (rS h)) (.remote (Dev.tc (n h) : Thread nD τ) (M h) (.dma (sS h)) (hsc h))}
    {k : Prog (TpuEff nD τ sig (Elt F) Λ₀ .tc) α} {Kt : α → sProp 𝕄} (O : CellTallies nD τ sig Unit) (W : Waits sig Unit) :
    iprop(records m K ∗ owes (c : Thread nD τ) (O + oweSend c t) W ∗ dutyTok EL (sendCell c t) 0 0
        ∗ dutyTok EL (recvCell (peer c t) (place c)) 0 0 ∗ sendPay m c t ∗ landing c t)
      ⊢ iprop((owes (c : Thread nD τ) O W ∗ away m c t -∗ wp frame (wpE (defs₀ (F := F)) 𝒱₀ (c : Thread nD τ) none) Set.univ k Kt)
          -∗ wp frame (wpE (defs₀ (F := F)) 𝒱₀ (c : Thread nD τ) none) Set.univ
            (if h : b = 1#1 then (do
              Prog.lift (.enqueueDma (M h) (.remote (Dev.tc (n h) : Thread nD τ) (M h) (.dma (sS h)) (hsc h)) (.dma (rS h)) (hsrc h) (hdst h) (hsem h)); k)
             else k) Kt) := by
  by_cases h : b = 1#1
  · rw [dif_pos h]
    exact copy_peer m K (hn h) (hb.mp h) (hM h) (hsS h) (hrS h) k Kt O W
  · rw [dif_neg h]
    unfold oweSend away
    rw [if_neg (fun h' => h (hb.mpr h')), if_neg (fun h' => h (hb.mpr h')), add_zero]
    iintro ⟨-, HO, -, -, Hs, -⟩ Hk
    iapply Hk
    isplitl [HO] <;> iassumption

/-! ## The waits for copies -/

/-- The wait for one copy on an own semaphore whose round has the one duty: what the duty brings, and the semaphore
    at zero again. -/
theorem wait_one {q : DmaSem sig} {k9 : Ix9} (hq : semOf k9 = .dma q) (hd : (sched (F := F) m).duties (cellOf9 (c, k9)) 0 = {0})
    {M M' : Memref sig .tc .vmem S256x256 .f32} {o : Fin 4} (hM : M = slabM o) {h1 : M'.view.WordExact} {h2 : M.view.WordExact}
    (k : Prog (TpuEff nD τ sig (Elt F) Λ₀ .tc) α) (Kt : α → sProp 𝕄) (W : Waits sig Unit) :
    iprop(records m K ∗ owes (c : Thread nD τ) 0 W ∗ fresh c k9 ∗ cred (tallyAt (cellOf9 (c, k9)) () N))
      ⊢ iprop(((∃ W, owes (c : Thread nD τ) 0 W) ∗ idle c k9 ∗ (sched m).payload (cellOf9 (c, k9)) 0 0
            -∗ wp frame (wpE (defs₀ (F := F)) 𝒱₀ (c : Thread nD τ) none) Set.univ k Kt)
          -∗ wp frame (wpE (defs₀ (F := F)) 𝒱₀ (c : Thread nD τ) none) Set.univ (do Prog.lift (.waitDma2 q M' M h1 h2); k) Kt) := by
  subst hM
  have hg : cellOf9 (c, k9) = ((c : Thread nD τ), .dma q) := by rw [← hq]
  simp only [Prog.lift, Prog.bind_op, Prog.bind_ret]
  unfold fresh idle
  have hI := records_inv m K (c, k9)
  rw [hg] at hd hI ⊢
  iintro ⟨#HR, HO, Hat, Hc⟩ Hk
  iapply (Rounds.wp_wait_rest_token 𝒱₀ EL (sched m) (c : Thread nD τ) none (κ := K (c, k9)) (k := fun _ => k)
      (wpE_waitDma2_eq 𝒱₀ (c : Thread nD τ) none Set.univ) (Set.mem_univ _) () (O := 0) (W := W) (R := 0) (m := 0) (T := ∅)
      (by rw [Nat.zero_add, expect_dma m c hd])) $$ [Hc HO Hat]
  · isplitr; · iapply hI; iexact HR
    isplitl [Hc]; · iexact Hc
    isplitl [HO]; · iexact HO
    isplitr; · rw [MayWait_zero]; iempintro
    iexact Hat
  iintro ⟨HO, Hat, -, Hpay⟩
  ihave Hp := (Entails.of_eq (rest_one m hd)) $$ Hpay
  imod (Rounds.cell_close EL (sched m) (Set.mem_univ (K (c, k9))) (fun h => h) (R := 0 + 1) (duties_later m _)) $$ [Hat] with Hz
  · isplitr; · iapply hI; iexact HR
    iexact Hat
  iapply Hk
  isplitl [HO]; · iexists _; iexact HO
  isplitl [Hz]; · iexact Hz
  iexact Hp

/-- An own semaphore without duties is at zero without a wait. -/
theorem wait_none {k9 : Ix9} (hd : (sched (F := F) m).duties (cellOf9 (c, k9)) 0 = ∅)
    (k : Prog (TpuEff nD τ sig (Elt F) Λ₀ .tc) α) (Kt : α → sProp 𝕄) :
    iprop(records m K ∗ fresh c k9)
      ⊢ iprop((idle c k9 -∗ wp frame (wpE (defs₀ (F := F)) 𝒱₀ (c : Thread nD τ) none) Set.univ k Kt)
          -∗ wp frame (wpE (defs₀ (F := F)) 𝒱₀ (c : Thread nD τ) none) Set.univ k Kt) := by
  iintro ⟨#HR, Hat⟩ Hk
  imod (Rounds.cell_close EL (sched m) (Set.mem_univ (K (c, k9))) (fun h => h) (R := 0) (duties_none m hd)) $$ [Hat] with Hz
  · isplitr; · iapply (records_inv m K (c, k9)); iexact HR
    iexact Hat
  iapply Hk; iexact Hz

/-- The step that waits for the copy from place `o`. -/
theorem step_recv {o : Fin 4} {b : BitVec 1} (hb : b = 1#1 ↔ place c ≠ o)
    {M : b = 1#1 → Memref sig .tc .vmem S256x256 .f32} (hM : ∀ h, M h = slabM o) {q : b = 1#1 → DmaSem sig} (hq : ∀ h, q h = recvS o)
    {h1 h2 : ∀ h, (M h).view.WordExact} {k : Prog (TpuEff nD τ sig (Elt F) Λ₀ .tc) α} {Kt : α → sProp 𝕄} (W : Waits sig Unit) :
    iprop(records m K ∗ owes (c : Thread nD τ) 0 W ∗ fresh c (.inr (.inr o)) ∗ due c o)
      ⊢ iprop(((∃ W, owes (c : Thread nD τ) 0 W) ∗ idle c (.inr (.inr o)) ∗ got m c o
            -∗ wp frame (wpE (defs₀ (F := F)) 𝒱₀ (c : Thread nD τ) none) Set.univ k Kt)
          -∗ wp frame (wpE (defs₀ (F := F)) 𝒱₀ (c : Thread nD τ) none) Set.univ
            (if h : b = 1#1 then (do Prog.lift (.waitDma2 (q h) (M h) (M h) (h1 h) (h2 h)); k) else k) Kt) := by
  unfold due got
  by_cases h : b = 1#1
  · have ho := hb.mp h
    rw [dif_pos h, if_pos ho, if_pos ho, ← payload_recv m c o 0]
    exact wait_one m K (k9 := .inr (.inr o)) (congrArg SemLoc.dma (hq h).symm) ((duties_recv m c o).trans (if_neg (Ne.symm ho))) (hM h) k Kt W
  · have ho := fun h' => h (hb.mpr h')
    rw [dif_neg h, if_neg ho]
    iintro ⟨#HR, HO, Hat, -⟩ Hk
    iapply (wait_none m K (k9 := .inr (.inr o)) ((duties_recv m c o).trans (if_pos (not_not.mp ho).symm)) k Kt) $$ [Hat]
    · isplitr; · iexact HR
      iexact Hat
    iintro Hz
    iapply Hk
    isplitl [HO]; · iexists _; iexact HO
    isplitl [Hz]; · iexact Hz
    rw [if_neg ho]; iempintro

/-- The step that waits for the own copy to place `t` to have left. -/
theorem step_sent {t : Fin 4} {b : BitVec 1} (hb : b = 1#1 ↔ place c ≠ t)
    {M : b = 1#1 → Memref sig .tc .vmem S256x256 .f32} (hM : ∀ h, M h = slabM (place c)) {q : b = 1#1 → DmaSem sig} (hq : ∀ h, q h = sendS t)
    {h1 h2 : ∀ h, (M h).view.WordExact} {k : Prog (TpuEff nD τ sig (Elt F) Λ₀ .tc) α} {Kt : α → sProp 𝕄} (W : Waits sig Unit) :
    iprop(records m K ∗ owes (c : Thread nD τ) 0 W ∗ fresh c (.inr (.inl t)) ∗ away m c t)
      ⊢ iprop(((∃ W, owes (c : Thread nD τ) 0 W) ∗ idle c (.inr (.inl t)) ∗ sendPay m c t
            -∗ wp frame (wpE (defs₀ (F := F)) 𝒱₀ (c : Thread nD τ) none) Set.univ k Kt)
          -∗ wp frame (wpE (defs₀ (F := F)) 𝒱₀ (c : Thread nD τ) none) Set.univ
            (if h : b = 1#1 then (do Prog.lift (.waitDma2 (q h) (M h) (M h) (h1 h) (h2 h)); k) else k) Kt) := by
  unfold away
  by_cases h : b = 1#1
  · have ht := hb.mp h
    rw [dif_pos h, if_pos ht, ← payload_send m c t 0]
    exact wait_one m K (k9 := .inr (.inl t)) (congrArg SemLoc.dma (hq h).symm) ((duties_send m c t).trans (if_neg (Ne.symm ht))) (hM h) k Kt W
  · have ht := fun h' => h (hb.mpr h')
    rw [dif_neg h, if_neg ht]
    iintro ⟨#HR, HO, Hat, Hs⟩ Hk
    iapply (wait_none m K (k9 := .inr (.inl t)) ((duties_send m c t).trans (if_pos (not_not.mp ht).symm)) k Kt) $$ [Hat]
    · isplitr; · iexact HR
      iexact Hat
    iintro Hz
    iapply Hk
    isplitl [HO]; · iexists _; iexact HO
    isplitl [Hz]; · iexact Hz
    iexact Hs

end Cert.Gather

end
-- ==== Proof.Own.lean ====
/-
The slabs of one device's output buffer: the buffer taken apart into its slabs and put together again, the own
slab filled from the argument, and lent out in four equal shares.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-- The whole output buffer of device `c`, holding `f`. -/
def outAll (f : S1024x256.Idx → Elt F .f32) : sProp 𝕄 :=
  ((c : Thread nD τ).loc cc0_stg1_0) ↦{fullShare} (f : Buf (Elt F) ((c : Thread nD τ).loc cc0_stg1_0))
/-- The whole input buffer of device `c`, holding its argument. -/
def inAll : sProp 𝕄 :=
  ((c : Thread nD τ).loc cc0_stg0_0) ↦{fullShare} (arg m c : Buf (Elt F) ((c : Thread nD τ).loc cc0_stg0_0))

omit [FloatOps F] in
/-- The output buffer is its four slabs. -/
theorem outAll_slabs (f : S1024x256.Idx → Elt F .f32) :
    outAll c f = bigSep Finset.univ fun o : Fin 4 => slabAt (F := F) c o fullShare f := by
  unfold outAll slabAt
  rw [← slab_cover]
  exact pointsTo_biUnion _ _ slab_disjoint

omit [FloatOps F] in
/-- Something for every place: for the own place, and for each of the others. -/
theorem own_and_others (Φ : Fin 4 → sProp 𝕄) :
    bigSep Finset.univ Φ = iprop(Φ (place c) ∗ bigSep Finset.univ fun t => if place c ≠ t then Φ t else iprop(emp)) := by
  rw [bigSep_univ_at Φ (place c), show Finset.univ.erase (place c) = Finset.univ.filter (fun t => place c ≠ t) from by
    ext t; simp [eq_comm], bigSep_filter]
  rfl

omit [FloatOps F] in
/-- At the start the own slab is kept and the others are to be handed out. -/
theorem out_apart (f : S1024x256.Idx → Elt F .f32) :
    outAll c f ⊢ iprop(slabAt c (place c) fullShare f ∗ bigSep Finset.univ (handout (F := F) c)) := by
  rw [outAll_slabs, own_and_others c]
  refine sep_mono_right (bigSep_mono fun t _ => show (if place c ≠ t then slabAt c t fullShare f else iprop(emp)) ⊢ handout c t from ?_)
  unfold handout
  by_cases h : place c ≠ t
  · rw [if_pos h, if_pos h]; iintro H; iexists f; iexact H
  · rw [if_neg h, if_neg h]

omit [FloatOps F] in
/-- In the end the own slab and the received ones are the output buffer, all gathered. -/
theorem out_together :
    iprop(slabAt c (place c) fullShare (gath m c) ∗ bigSep Finset.univ (got m c)) ⊢ outAll c (gath m c) := by
  rw [outAll_slabs, own_and_others c fun o => slabAt c o fullShare (gath m c)]
  exact Entails.of_eq rfl

omit [FloatOps F] in
/-- The own slab is the four shares lent to the copies. -/
theorem slab_lent : slabAt c (place c) fullShare (gath m c) = bigSep Finset.univ (sendPay m c) := by
  unfold slabAt
  rw [ShareLeaves.pointsTo_leaves _ _ 2 fullShare]
  rfl

/-- The kernel's cast of a block to its own shape changes nothing. -/
theorem pay_eq (v : Vec F S256x256 .f32) : k0_pay1 v = v := by
  unfold k0_pay1 shapeCast
  funext i
  rw [Shape.reshapeEquiv_self]

omit [FloatOps F] in
theorem zero_off : (![0, 0] : Fin 2 → ℕ) = fun _ => 0 := funext fun a => by fin_cases a <;> rfl

variable {α : Type}

/-- The argument stored into the own slab: both loads and the store. -/
theorem step_own {r : Rect S1024x256} (hr : r = slabR (place c))
    {h0 : (xM : Memref sig .tc .vmem S256x256 .f32).view.LoadsAt (Rect.unit (s := S256x256) ![0, 0] S256x256.size inb_S256x256_S256x256_0_0).toLoadRect}
    {h1 : (oM : Memref sig .tc .vmem S1024x256 .f32).view.LoadsAt r.toLoadRect}
    {w : Vec F S256x256 .f32 → r.shape.Idx → Elt F .f32} (hw : ∀ v, HEq (w v) v)
    {h2 : (oM.access r).Stores Finset.univ} {h3 : (Finset.univ : Finset r.shape.Idx) = Finset.univ ∨ ∀ a, r.stride a = 1}
    {k : Prog (TpuEff nD τ sig (Elt F) Λ₀ .tc) α} {Kt : α → sProp 𝕄} (f : S1024x256.Idx → Elt F .f32) :
    iprop(inAll m c ∗ slabAt c (place c) fullShare f)
      ⊢ iprop((inAll m c ∗ bigSep Finset.univ (sendPay m c)
            -∗ wp frame (wpE (defs₀ (F := F)) 𝒱₀ (c : Thread nD τ) none) Set.univ k Kt)
          -∗ wp frame (wpE (defs₀ (F := F)) 𝒱₀ (c : Thread nD τ) none) Set.univ (do
            let v ← Prog.lift (.load xM (Rect.unit (s := S256x256) ![0, 0] S256x256.size inb_S256x256_S256x256_0_0).toLoadRect h0)
            let _ ← Prog.lift (.load oM r.toLoadRect h1)
            Prog.lift (.store oM r (w v) Finset.univ h2 h3)
            k) Kt) := by
  subst hr
  have hw' : w = fun v => v := funext fun v => eq_of_heq (hw v)
  subst hw'
  simp only [Prog.lift, Prog.bind_op, Prog.bind_ret]
  unfold inAll slabAt
  iintro ⟨Hx, Ho⟩ Hk
  iapply (wp_load 𝒱₀ (c : Thread nD τ) none Set.univ (m := xM) (Finset.subset_univ _)) $$ Hx; iintro Hx
  rw [show (xM : Memref sig .tc .vmem S256x256 .f32).view.readAt (Elt F) (Rect.unit (s := S256x256) ![0, 0] S256x256.size inb_S256x256_S256x256_0_0).toLoadRect (arg m c) = arg m c
    from Memref.readAt_unit_zero (Elt F) cc0_stg0_0 zero_off _ _]
  iapply (wp_load_rect 𝒱₀ (c : Thread nD τ) none Set.univ (m := oM) (r := slabR (place c)) (S := (slabM (place c)).view.set) (Finset.Subset.refl _)) $$ Ho; iintro Ho
  iapply (wp_store 𝒱₀ (c : Thread nD τ) none Set.univ (m := oM) (r := slabR (place c)) (S := (slabM (place c)).view.set) (Mk := Finset.univ) (Finset.Subset.refl _)) $$ Ho; iintro Ho
  iapply Hk
  isplitl [Hx]; · iexact Hx
  rw [← slab_lent]
  unfold slabAt
  iapply (show _ ⊢ _ from Entails.of_eq (pointsTo_congr (store_slab m c (place c) (peer_place c) f)))
  iexact Ho

end Cert.Gather

end
-- ==== Proof.Body.lean ====
/-
The kernel's body on one device, from the state the launch leaves it in to its end: the protocol's steps in the
order of the program. At the end the output buffer holds what the line gathers and all nine semaphores are at zero.
-/
module

public import proofs.«01_k».proof.Proof.Own

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## Where the body starts and ends -/

/-- The rights device `c` has in the protocol: its nine semaphores at their start, and one token for each thing it
    does - a signal to each place, a copy to each place as sender, and as the one who fills the receiver's slab. -/
def rights (c : Dev nD) : sProp 𝕄 :=
  iprop((bigSep Finset.univ fun k : Ix9 => fresh c k)
    ∗ (bigSep Finset.univ fun t : Fin 4 => dutyTok EL (barCell (peer c t)) 0 (place c))
    ∗ (bigSep Finset.univ fun t : Fin 4 => dutyTok EL (sendCell c t) 0 0)
    ∗ (bigSep Finset.univ fun t : Fin 4 => dutyTok EL (recvCell (peer c t) (place c)) 0 0))

/-- What the body starts from: those rights, the claims on three signals and on the copies to come, and the levels. -/
def start (c : Dev nD) : sProp 𝕄 :=
  iprop((∃ K, records m K ∗ rights (F := F) c) ∗ cred (tallyAt (barCell c) () 3) ∗ bigSep Finset.univ (due (F := F) c) ∗ levAts L lv)

/-- What it leaves: every semaphore at zero. -/
def finish (c : Dev nD) : sProp 𝕄 := bigSep Finset.univ fun k : Ix9 => idle (F := F) c k

/-- The launch's data on device `c`: the arrays as at launch; the input staged as the argument, the output staged as
    the gathered blocks; owing three signals and three copies before the body, nothing after. -/
def dats (_ : Fin 1) (c : Dev nD) : Dat τ (Elt F) Unit ℕ UU ℕ cfg0 c where
  A w := m ((cfg0.win w).arr.view.loc (c : Thread nD τ))
  after w _ := match w with
    | ⟨0, _⟩ => arg m c
    | ⟨1, _⟩ => gath m c
  Φ t := match t with
    | ⟨0, _⟩ => start m c
    | ⟨_ + 1, _⟩ => finish c
  q _ := fullShare
  owed t := match t with
    | ⟨0, _⟩ => O₀ c
    | ⟨_ + 1, _⟩ => 0

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Something for each of the nine semaphores: the barrier's, the send semaphores', the receive semaphores'. -/
theorem bigSep_nine (Φ : Ix9 → sProp 𝕄) :
    bigSep Finset.univ Φ = iprop(Φ (.inl ()) ∗ (bigSep Finset.univ fun t => Φ (.inr (.inl t))) ∗ bigSep Finset.univ fun o => Φ (.inr (.inr o))) := by
  rw [bigSep_univ_sum, bigSep_univ_sum, bigSep_univ_eq_bigSepL [()] (by decide) (by decide), bigSepL_singleton]
  rfl

omit [FloatOps F] in
/-- The staged input is the device's argument. -/
theorem staged_arg (c : Dev nD) : (win0_0.blk (0 : Fin 1)).view.read (Elt F) (m ((c : Thread nD τ).loc main_arg0)) = arg m c :=
  Memref.read_access_unit_zero (Elt F) main_arg0 (funext fun a => by fin_cases a <;> decide) (fun a => by fin_cases a <;> decide) _

/-! ## The body -/

set_option maxHeartbeats 1600000 in
/-- The body, step by step. -/
theorem body_run (c : Dev nD) (K : Dev nD × Ix9 → ℕ) (W : Waits sig Unit) (f : S1024x256.Idx → Elt F .f32) (Kt : PUnit → sProp 𝕄) :
    iprop((records m K ∗ rights c ∗ cred (tallyAt (barCell c) () 3) ∗ bigSep Finset.univ (due c) ∗ levAts L lv)
        ∗ owes (c : Thread nD τ) (O₀ c) W ∗ inAll m c ∗ outAll c f
        ∗ ((∃ W, owes (c : Thread nD τ) 0 W) ∗ finish c ∗ inAll m c ∗ outAll c (gath m c) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            cc0_scratch0 cc0_scratch1) Kt := by
  obtain ⟨⟨s0, s1, s2, s3⟩, ⟨d0, d1, d2, d3⟩, ⟨w0, w1, w2, w3⟩⟩ := cond_iff c
  obtain ⟨⟨n0, n1, n2, n3⟩, p0, p1, p2, p3⟩ := dev_val c
  obtain ⟨a0, ⟨b0, b1, b2, b3⟩, e0, e1, e2, e3⟩ := off_val c
  obtain ⟨r0, r1, r2, r3⟩ := sem_val c
  simp only [cc0_body_eq_skeleton]; unfold cc0_body_skel
  simp only [k0_part1_eq_skeleton, k0_part2_eq_skeleton]
  rw [wp_bind]
  unfold k0_part1_skel rights finish
  rw [bigSep_nine, bigSep_nine]
  simp only [bigSep_four]
  rw [wp_bind, show (Prog.lift .deviceId : Prog (TpuEff nD τ sig (Elt F) Λ₀ .tc) (Dev nD)) = .op .deviceId .ret from rfl, wp_deviceId]
  iintro ⟨⟨#HR, ⟨⟨fB, ⟨fS0, fS1, fS2, fS3⟩, fV0, fV1, fV2, fV3⟩, ⟨tB0, tB1, tB2, tB3⟩, ⟨tS0, tS1, tS2, tS3⟩, tV0, tV1, tV2, tV3⟩, cB, ⟨u0, u1, u2, u3⟩, #Hlev⟩, HO, Hx, Hout, Hk⟩
  rw [wp_ret]; imodintro
  -- the own slab is kept, the others go with the signals
  ihave Hs := (out_apart c f) $$ Hout
  rw [bigSep_four]
  icases Hs with ⟨Hown, h0, h1, h2, h3⟩
  unfold O₀
  iapply (step_signal m K (t := 0) s0 (fun h => dev_eq (k0_dev1_lt c h) 0 n0) (oweSends c + oweSig c 3 + oweSig c 2 + oweSig c 1) W) $$ [HO tB0 h0]
  · isplitr; · iexact HR
    isplitl [HO]; · iexact HO
    isplitl [tB0] <;> iassumption
  iintro HO
  iapply (step_signal m K (t := 1) s1 (fun h => dev_eq (k0_dev2_lt c h) 1 n1) (oweSends c + oweSig c 3 + oweSig c 2) W) $$ [HO tB1 h1]
  · isplitr; · iexact HR
    isplitl [HO]; · iexact HO
    isplitl [tB1] <;> iassumption
  iintro HO
  iapply (step_signal m K (t := 2) s2 (fun h => dev_eq (k0_dev3_lt c h) 2 n2) (oweSends c + oweSig c 3) W) $$ [HO tB2 h2]
  · isplitr; · iexact HR
    isplitl [HO]; · iexact HO
    isplitl [tB2] <;> iassumption
  iintro HO
  iapply (step_signal m K (t := 3) s3 (fun h => dev_eq (k0_dev4_lt c h) 3 n3) (oweSends c) W) $$ [HO tB3 h3]
  · isplitr; · iexact HR
    isplitl [HO]; · iexact HO
    isplitl [tB3] <;> iassumption
  iintro HO
  iapply (step_barrier m K W) $$ [HO fB cB]
  · isplitr; · iexact HR
    isplitr; · iexact Hlev
    isplitl [HO]; · iexact HO
    isplitl [fB] <;> iassumption
  rw [bigSep_four]
  iintro ⟨⟨%W1, HO⟩, zB, l0, l1, l2, l3⟩
  -- the own slab is filled and lent out in four shares
  have hr : Rect.unit (s := S1024x256) (k0_off1 c) S256x256.size (k0_off1_inb c) = slabR (place c) := by congr
  iapply (step_own m c hr (fun v => heq_of_eq (pay_eq v)) f) $$ [Hx Hown]
  · isplitl [Hx] <;> iassumption
  rw [bigSep_four]
  iintro ⟨Hx, q0, q1, q2, q3⟩
  unfold oweSends
  iapply (step_send m K (t := 0) d0 (fun h => dev_eq (k0_dev5_lt c h) 0 p0) (fun h => slice_eq_slab (place c) b0 (k0_off3_inb c h))
    (fun _ => send_sem_eq 0 rfl _) (fun h => recv_sem_eq (place c) r0 (k0_off2_inb c h)) (0 + oweSend c 3 + oweSend c 2 + oweSend c 1) W1) $$ [HO tS0 tV0 q0 l0]
  · isplitr; · iexact HR
    isplitl [HO]; · iexact HO
    isplitl [tS0]; · iexact tS0
    isplitl [tV0]; · iexact tV0
    isplitl [q0] <;> iassumption
  iintro ⟨HO, q0⟩
  rw [wp_pure]; imodintro
  dsimp only
  rw [wp_bind]; unfold k0_part2_skel
  iapply (step_send m K (t := 1) d1 (fun h => dev_eq (k0_dev6_lt c h) 1 p1) (fun h => slice_eq_slab (place c) b1 (k0_off5_inb c h))
    (fun _ => send_sem_eq 1 rfl _) (fun h => recv_sem_eq (place c) r1 (k0_off4_inb c h)) (0 + oweSend c 3 + oweSend c 2) W1) $$ [HO tS1 tV1 q1 l1]
  · isplitr; · iexact HR
    isplitl [HO]; · iexact HO
    isplitl [tS1]; · iexact tS1
    isplitl [tV1]; · iexact tV1
    isplitl [q1] <;> iassumption
  iintro ⟨HO, q1⟩
  iapply (step_send m K (t := 2) d2 (fun h => dev_eq (k0_dev7_lt c h) 2 p2) (fun h => slice_eq_slab (place c) b2 (k0_off7_inb c h))
    (fun _ => send_sem_eq 2 rfl _) (fun h => recv_sem_eq (place c) r2 (k0_off6_inb c h)) (0 + oweSend c 3) W1) $$ [HO tS2 tV2 q2 l2]
  · isplitr; · iexact HR
    isplitl [HO]; · iexact HO
    isplitl [tS2]; · iexact tS2
    isplitl [tV2]; · iexact tV2
    isplitl [q2] <;> iassumption
  iintro ⟨HO, q2⟩
  iapply (step_send m K (t := 3) d3 (fun h => dev_eq (k0_dev8_lt c h) 3 p3) (fun h => slice_eq_slab (place c) b3 (k0_off9_inb c h))
    (fun _ => send_sem_eq 3 rfl _) (fun h => recv_sem_eq (place c) r3 (k0_off8_inb c h)) (0) W1) $$ [HO tS3 tV3 q3 l3]
  · isplitr; · iexact HR
    isplitl [HO]; · iexact HO
    isplitl [tS3]; · iexact tS3
    isplitl [tV3]; · iexact tV3
    isplitl [q3] <;> iassumption
  iintro ⟨HO, q3⟩
  -- every other slab comes in
  iapply (step_recv m K (o := 0) (cond_recv_iff c 0) (fun _ => slice_eq_slab 0 rfl _) (fun _ => recv_sem_eq 0 rfl _) W1) $$ [HO fV0 u0]
  · isplitr; · iexact HR
    isplitl [HO]; · iexact HO
    isplitl [fV0] <;> iassumption
  iintro ⟨⟨%V0, HO⟩, fV0, u0⟩
  iapply (step_recv m K (o := 1) (cond_recv_iff c 1) (fun _ => slice_eq_slab 1 rfl _) (fun _ => recv_sem_eq 1 rfl _) V0) $$ [HO fV1 u1]
  · isplitr; · iexact HR
    isplitl [HO]; · iexact HO
    isplitl [fV1] <;> iassumption
  iintro ⟨⟨%V1, HO⟩, fV1, u1⟩
  iapply (step_recv m K (o := 2) (cond_recv_iff c 2) (fun _ => slice_eq_slab 2 rfl _) (fun _ => recv_sem_eq 2 rfl _) V1) $$ [HO fV2 u2]
  · isplitr; · iexact HR
    isplitl [HO]; · iexact HO
    isplitl [fV2] <;> iassumption
  iintro ⟨⟨%V2, HO⟩, fV2, u2⟩
  iapply (step_recv m K (o := 3) (cond_recv_iff c 3) (fun _ => slice_eq_slab 3 rfl _) (fun _ => recv_sem_eq 3 rfl _) V2) $$ [HO fV3 u3]
  · isplitr; · iexact HR
    isplitl [HO]; · iexact HO
    isplitl [fV3] <;> iassumption
  iintro ⟨⟨%V3, HO⟩, fV3, u3⟩
  -- and every copy of the own slab has left
  iapply (step_sent m K (t := 0) w0 (fun h => slice_eq_slab (place c) e0 (k0_off10_inb c h)) (fun _ => send_sem_eq 0 rfl _) V3) $$ [HO fS0 q0]
  · isplitr; · iexact HR
    isplitl [HO]; · iexact HO
    isplitl [fS0] <;> iassumption
  iintro ⟨⟨%Y0, HO⟩, fS0, q0⟩
  iapply (step_sent m K (t := 1) w1 (fun h => slice_eq_slab (place c) e1 (k0_off11_inb c h)) (fun _ => send_sem_eq 1 rfl _) Y0) $$ [HO fS1 q1]
  · isplitr; · iexact HR
    isplitl [HO]; · iexact HO
    isplitl [fS1] <;> iassumption
  iintro ⟨⟨%Y1, HO⟩, fS1, q1⟩
  iapply (step_sent m K (t := 2) w2 (fun h => slice_eq_slab (place c) e2 (k0_off12_inb c h)) (fun _ => send_sem_eq 2 rfl _) Y1) $$ [HO fS2 q2]
  · isplitr; · iexact HR
    isplitl [HO]; · iexact HO
    isplitl [fS2] <;> iassumption
  iintro ⟨⟨%Y2, HO⟩, fS2, q2⟩
  rw [wp_pure]; imodintro
  iapply (step_sent m K (t := 3) w3 (fun h => slice_eq_slab (place c) e3 (k0_off13_inb c h)) (fun _ => send_sem_eq 3 rfl _) Y2) $$ [HO fS3 q3]
  · isplitr; · iexact HR
    isplitl [HO]; · iexact HO
    isplitl [fS3] <;> iassumption
  iintro ⟨⟨%Y3, HO⟩, fS3, q3⟩
  rw [wp_pure]; imodintro
  iapply Hk
  isplitl [HO]; · iexists _; iexact HO
  isplitl [zB fS0 fS1 fS2 fS3 fV0 fV1 fV2 fV3]
  · isplitl [zB]; · iexact zB
    isplitl [fS0 fS1 fS2 fS3]
    · isplitl [fS0]; · iexact fS0
      isplitl [fS1]; · iexact fS1
      isplitl [fS2] <;> iassumption
    isplitl [fV0]; · iexact fV0
    isplitl [fV1]; · iexact fV1
    isplitl [fV2] <;> iassumption
  isplitl [Hx]; · iexact Hx
  iapply (out_together m c)
  rw [slab_lent, bigSep_four, bigSep_four]
  isplitl [q0 q1 q2 q3]
  · isplitl [q0]; · iexact q0
    isplitl [q1]; · iexact q1
    isplitl [q2] <;> iassumption
  isplitl [u0]; · iexact u0
  isplitl [u1]; · iexact u1
  isplitl [u2] <;> iassumption

end Cert.Gather

end
-- ==== Proof.Owed.lean ====
/-
The claims a device holds at launch. A claim on a semaphore is the sum of what all devices owe it, and what is
owed is indexed by (device, place written to). Reading that index from the receiving side (`swap`) shows that a
barrier is owed three units and a receive semaphore one copy, or nothing at the own place.
-/
module

public import proofs.«01_k».proof.Proof.Body

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Sums over the sixteen devices and four places -/

omit [FloatOps F] in
/-- A quantity for every device and place, written from the sender's side, summed from the receiver's side. -/
theorem sum_swap (f : Dev nD → Fin 4 → ℕ) (a : Dev nD × Fin 4 → ℕ) (h : ∀ d t, f d t = a (swap (d, t))) :
    (∑ d : Dev nD, ∑ t : Fin 4, f d t) = ∑ x : Dev nD × Fin 4, a x := by
  rw [← Equiv.sum_comp swap a, Fintype.sum_prod_type]
  exact Finset.sum_congr rfl fun d _ => Finset.sum_congr rfl fun t _ => h d t

theorem swap_apply (d : Dev nD) (t : Fin 4) : swap (d, t) = (peer d t, place d) := rfl

/-- A device is not at place `t` exactly when its partner there is not at the device's place. -/
theorem swap_apart (d : Dev nD) (t : Fin 4) : place d ≠ t ↔ place (swap (d, t)).1 ≠ (swap (d, t)).2 := by
  rw [swap_apply, place_peer]; exact ne_comm

theorem bar_inj {a b : Dev nD} (h : barCell a = barCell b) : a = b := congrArg Prod.fst (cellOf9_injective h)
theorem recv_inj {a b : Dev nD} {o p : Fin 4} (h : recvCell a o = recvCell b p) : a = b ∧ o = p := by
  have h' := cellOf9_injective h
  exact ⟨congrArg Prod.fst h', Sum.inr_injective (Sum.inr_injective (congrArg Prod.snd h'))⟩
theorem bar_ne_recv (a b : Dev nD) (o : Fin 4) : barCell a ≠ recvCell b o := fun h => by
  have h' := congrArg Prod.snd (cellOf9_injective h)
  exact Sum.inl_ne_inr h'

/-! ## What everyone together owes one semaphore -/

/-- A barrier is owed one unit by each of the three other places. -/
theorem owed_bar (c : Dev nD) : (∑ d : Dev nD, O₀ d (barCell c) ()) = 3 := by
  have h (d : Dev nD) (t : Fin 4) : oweSig d t (barCell c) ()
      = (fun x : Dev nD × Fin 4 => if x.1 = c ∧ place x.1 ≠ x.2 then 1 else 0) (swap (d, t)) := by
    rw [oweSig_apply]
    refine if_congr ?_ rfl rfl
    rw [swap_apart d t, and_comm]
    exact and_congr ⟨fun h => (bar_inj h).symm, fun h => by rw [← h]; rfl⟩ Iff.rfl
  have h0 (d : Dev nD) : O₀ d (barCell c) () = ∑ t : Fin 4, oweSig d t (barCell c) () := by
    rw [O₀_apply, Finset.sum_eq_zero (fun t _ => by rw [oweSend_apply, if_neg fun h => bar_ne_recv _ _ _ h.2]), Nat.zero_add]
  rw [Finset.sum_congr rfl fun d _ => h0 d, sum_swap (fun d t => oweSig d t (barCell c) ()) (fun x => if x.1 = c ∧ place x.1 ≠ x.2 then 1 else 0) h,
    Fintype.sum_prod_type, Fintype.sum_eq_single c fun d hd => Finset.sum_eq_zero fun t _ => if_neg fun h => hd h.1]
  simp only [true_and]
  generalize place c = p
  revert p; decide

/-- A receive semaphore is owed one copy, by the device at its place; at the own place nothing. -/
theorem owed_recv (c : Dev nD) (o : Fin 4) : (∑ d : Dev nD, O₀ d (recvCell c o) ()) = if place c ≠ o then N else 0 := by
  have h (d : Dev nD) (t : Fin 4) : oweSend d t (recvCell c o) ()
      = (fun x : Dev nD × Fin 4 => if x = (c, o) ∧ place x.1 ≠ x.2 then N else 0) (swap (d, t)) := by
    rw [oweSend_apply]
    refine if_congr ?_ rfl rfl
    rw [swap_apart d t, and_comm]
    exact and_congr ⟨fun h => Prod.ext (recv_inj h).1.symm (recv_inj h).2.symm, fun h => by
      rw [swap_apply] at h; rw [(Prod.mk.inj h).1, (Prod.mk.inj h).2]⟩ Iff.rfl
  have h0 (d : Dev nD) : O₀ d (recvCell c o) () = ∑ t : Fin 4, oweSend d t (recvCell c o) () := by
    rw [O₀_apply, Finset.sum_eq_zero (f := fun t => oweSig d t (recvCell c o) ())
      (fun t _ => by rw [oweSig_apply, if_neg fun h => bar_ne_recv _ _ _ h.2.symm]), Nat.add_zero]
  rw [Finset.sum_congr rfl fun d _ => h0 d, sum_swap (fun d t => oweSend d t (recvCell c o) ()) (fun x => if x = (c, o) ∧ place x.1 ≠ x.2 then N else 0) h,
    Fintype.sum_eq_single (c, o) fun x hx => if_neg fun h => hx h.1]
  exact if_congr (and_iff_right rfl) rfl rfl

/-! ## The claims -/

/-- The launch claim on a semaphore, once the sum owed is known. -/
theorem launch_claim (g : GSem nD τ sig) (n : ℕ) (h : (∑ d : Dev nD, O₀ d g ()) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, h, Finsupp.single_eq_same]

omit [FloatOps F] in
/-- Out of its launch claims a device keeps the barrier's and the receive semaphores'. -/
theorem launch_claims (c : Dev nD) :
    (Pipeline.launchCred O₀ c : sProp 𝕄) ⊢ iprop(cred (tallyAt (barCell c) () 3) ∗ bigSep Finset.univ (due (F := F) c)) := by
  unfold Pipeline.launchCred due
  refine (bigSep_subset (Finset.subset_univ (Finset.univ.map ⟨semOf, semOf_injective⟩))).trans ?_
  rw [bigSep_map, bigSep_nine]
  refine BI.sep_mono (Entails.of_eq (congrArg cred (launch_claim (barCell c) 3 (owed_bar c)))) ?_
  refine Idealize.SL.BI.Entails.trans (BI.sep_and.trans BI.and_elimR) (bigSep_mono fun o _ => ?_)
  exact Entails.of_eq (congrArg cred (launch_claim (recvCell c o) _ (owed_recv c o)))

end Cert.Gather

end
-- ==== Proof.Funds.lean ====
/-
The launch's ghost state: a record for each of the nine semaphores of every device, and the tokens for what is
done to them. Tokens are minted for the device whose semaphore it is and dealt to the device that acts on it, which
is the same pairs (device, place) read from the other side.
-/
module

public import proofs.«01_k».proof.Proof.Body

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The semaphores at launch -/

/-- The kernel's own semaphores: the send semaphores, then the receive semaphores. -/
abbrev osem : Fin 8 → SemLoc sig := fun k => .dma ⟨2 + k.val, by have := k.isLt; show _ < 10; omega⟩

theorem ownSemFacts : Pipeline.OwnSemFacts cfg0.spec osem := by decide

omit [FloatOps F] in
/-- The own semaphores at zero and the barrier at zero are all nine at zero. -/
theorem idle_all (c : Dev nD) :
    iprop(unscopedSems0 c ∗ Pipeline.ownSems0 (Ix := Unit) (Name := ℕ) (U := UU) (Lvl := ℕ) (Val := Elt F) (τ := τ) osem c)
      = (finish c : sProp 𝕄) := by
  unfold finish Pipeline.ownSems0 unscopedSems0
  rw [bigSep_univ_sum, bigSep_univ_equiv (finSumFinEquiv : Fin 4 ⊕ Fin 4 ≃ Fin 8) (fun k => semVal ((c.tc : Thread nD τ), osem k) 0), bigSep_eq_bigSepL_of_eq [SemLoc.reg barS] (by decide) (by decide),
    bigSepL_singleton, bigSep_univ_eq_bigSepL [()] (by decide) (by decide), bigSepL_singleton]
  congr 1

/-! ## Records and tokens -/

/-- Every semaphore of the protocol. -/
def cells : Finset (GSem nD τ sig) := Finset.univ.map ⟨cellOf9, cellOf9_injective⟩

/-- What is done to one device's semaphores: a signal from each place, a copy sent to each place, a copy received from each. -/
abbrev Deed : Type := Fin 4 ⊕ (Fin 4 ⊕ Fin 4)
/-- The semaphore a deed concerns and the name of the duty it is there. -/
abbrev onSem : Deed → Ix9 := Sum.elim (fun _ => .inl ()) .inr
abbrev asDuty : Deed → Fin 4 := Sum.elim id fun _ => 0
/-- The token of a deed. -/
abbrev token (x : Dev nD × Deed) : GSem nD τ sig × ℕ × Fin 4 := (cellOf9 (x.1, onSem x.2), 0, asDuty x.2)

theorem deed_injective : Function.Injective fun x : Deed => (onSem x, asDuty x) := by decide
theorem token_injective : Function.Injective token := by
  rintro ⟨c, x⟩ ⟨d, y⟩ h
  have h1 := cellOf9_injective (congrArg Prod.fst h)
  have h2 : asDuty x = asDuty y := congrArg (fun z => z.2.2) h
  exact Prod.ext (Prod.mk.inj h1).1 (deed_injective (Prod.ext (Prod.mk.inj h1).2 h2))
def tokens : Finset (GSem nD τ sig × ℕ × Fin 4) := Finset.univ.map ⟨token, token_injective⟩

/-- The launch's ghost state: the pipeline library's and the protocol's. -/
def u₀ : UU := (initOf (Pipeline.cells cfgs cellOf_inj) (Pipeline.launchToks cfgs cellOf_inj), initOf cells tokens)

/-- The tokens of what is done to `c`'s semaphores. -/
def minted (c : Dev nD) : sProp 𝕄 :=
  iprop((bigSep Finset.univ fun t : Fin 4 => dutyTok EL (barCell c) 0 t)
    ∗ (bigSep Finset.univ fun t : Fin 4 => dutyTok EL (sendCell c t) 0 0)
    ∗ (bigSep Finset.univ fun o : Fin 4 => dutyTok EL (recvCell c o) 0 0))
/-- The tokens of what `c` does. -/
def dealt (c : Dev nD) : sProp 𝕄 :=
  iprop((bigSep Finset.univ fun t : Fin 4 => dutyTok EL (barCell (peer c t)) 0 (place c))
    ∗ (bigSep Finset.univ fun t : Fin 4 => dutyTok EL (sendCell c t) 0 0)
    ∗ (bigSep Finset.univ fun t : Fin 4 => dutyTok EL (recvCell (peer c t) (place c)) 0 0))

omit [FloatOps F] in
/-- Something for every (device, place), regrouped by the device on the other side. -/
theorem regrouped (Φ : Dev nD → Fin 4 → sProp 𝕄) :
    (bigSep Finset.univ fun c => bigSep Finset.univ fun t => Φ c t) = bigSep Finset.univ fun c => bigSep Finset.univ fun t => Φ (peer c t) (place c) := by
  rw [← bigSep_univ_prod (fun x : Dev nD × Fin 4 => Φ x.1 x.2), bigSep_univ_equiv swap, bigSep_univ_prod]
  rfl

omit [FloatOps F] in
/-- All tokens minted are all tokens dealt. -/
theorem minted_dealt : (bigSep Finset.univ (minted (F := F))) = bigSep Finset.univ dealt := by
  unfold minted dealt
  simp only [bigSep_sep']
  rw [regrouped fun c t => dutyTok EL (barCell c) 0 t, regrouped fun c t => dutyTok EL (recvCell c t) 0 0]

/-- What device `c` is given at launch: the state of each of its semaphores, its place at the start of each, the tokens. -/
def G (c : Dev nD) : sProp 𝕄 :=
  iprop((bigSep Finset.univ fun k : Ix9 => roundState EL (sched m) (cellOf9 (c, k)) 0)
    ∗ (bigSep Finset.univ fun k : Ix9 => reached EL (cellOf9 (c, k)) 0)
    ∗ (bigSep Finset.univ fun k : Ix9 => fresh c k) ∗ minted c)
/-- What it has once everyone's semaphores are on record. -/
def G' (c : Dev nD) : sProp 𝕄 := iprop(∃ K, records m K ∗ rights c)

omit [FloatOps F] in
/-- The protocol's ghost state pays for what every device is given. -/
theorem fund : BI.own (EL (initOf cells tokens)) ⊢ (|==> bigSep Finset.univ (G m) : sProp 𝕄) := by
  have hC (Φ : GSem nD τ sig → sProp 𝕄) : bigSep cells Φ = bigSep Finset.univ fun c : Dev nD => bigSep Finset.univ fun k : Ix9 => Φ (cellOf9 (c, k)) := by
    unfold cells; rw [bigSep_map, bigSep_univ_prod]; rfl
  have hT : bigSep tokens (fun x => dutyTok EL x.1 x.2.1 x.2.2) = bigSep Finset.univ (minted (F := F)) := by
    unfold tokens; rw [bigSep_map, bigSep_univ_prod]
    exact bigSep_congr fun c _ => by rw [bigSep_univ_sum, bigSep_univ_sum]; rfl
  have h := Rounds.fund EL (sched (F := F) m) cells tokens
  rw [hC, hC, hC, hT, ← bigSep_sep', ← bigSep_sep', ← bigSep_sep'] at h
  exact h

/-! ## Putting the semaphores on record -/

omit [FloatOps F] in
/-- A device's nine semaphores become shared records. -/
theorem put_down (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EL (sched m) κ (cellOf9 (c, k))))
          ∗ (bigSep Finset.univ fun k : Ix9 => reached EL (cellOf9 (c, k)) 0) ∗ (bigSep Finset.univ fun k : Ix9 => fresh c k) ∗ minted c) := by
  have hrec : iprop(finish c ∗ bigSep Finset.univ fun k : Ix9 => roundState EL (sched m) (cellOf9 (c, k)) 0)
      ⊢ (|={Set.univ}=> bigSep Finset.univ fun k => iprop(∃ κ : ℕ, cellInv EL (sched m) κ (cellOf9 (c, k))) : sProp 𝕄) := by
    unfold finish; rw [← bigSep_sep']
    exact (bigSep_mono fun k _ => (Rounds.body_intro EL (sched m) (cellOf9 (c, k))).trans inv_alloc).trans (bigSep_fupd _ _)
  unfold G
  iintro ⟨Hos, Hus, Hst, Hrest⟩
  imod hrec $$ [Hos Hus Hst] with HI
  · rw [← idle_all]
    isplitl [Hos Hus]
    · isplitl [Hus] <;> iassumption
    iexact Hst
  imodintro
  isplitl [HI] <;> iassumption

omit [FloatOps F] in
/-- With the records known to all, each device has its own rights. -/
theorem share_out :
    (bigSep Finset.univ fun c : Dev nD => iprop((bigSep Finset.univ fun k => iprop(∃ κ : ℕ, cellInv EL (sched m) κ (cellOf9 (c, k))))
          ∗ (bigSep Finset.univ fun k : Ix9 => reached EL (cellOf9 (c, k)) 0) ∗ (bigSep Finset.univ fun k : Ix9 => fresh c k) ∗ minted c) : sProp 𝕄)
      ⊢ bigSep Finset.univ (G' m) := by
  rw [bigSep_sep', bigSep_sep', bigSep_sep', minted_dealt,
    ← bigSep_univ_prod (fun x : Dev nD × Ix9 => iprop(∃ κ : ℕ, cellInv EL (sched (F := F) m) κ (cellOf9 x))),
    ← bigSep_univ_prod (fun x : Dev nD × Ix9 => (reached EL (cellOf9 x) 0 : sProp 𝕄)), ← bigSep_sep']
  iintro ⟨HI, #HR, Hown⟩
  ihave HK := (BI.bigSep_exists_pi Finset.univ (fun (x : Dev nD × Ix9) (κ : ℕ) => (cellInv EL (sched m) κ (cellOf9 x) : sProp 𝕄))) $$ HI
  icases HK with ⟨%K, #HI⟩
  ihave Hall := (BI.bigSep_of_persistent (Finset.univ : Finset (Dev nD)) (records m K)) $$ []
  · unfold records; isplitl
    · iexact HI
    · iexact HR
  unfold G'
  iapply (show _ ⊢ _ from (Entails.of_eq (bigSep_sep' Finset.univ (fun _ : Dev nD => records m K)
    fun c => iprop((bigSep Finset.univ fun k : Ix9 => fresh c k) ∗ dealt c)).symm).trans (bigSep_mono fun c _ =>
      show iprop(records m K ∗ (bigSep Finset.univ fun k : Ix9 => fresh c k) ∗ dealt c) ⊢ iprop(∃ K, records m K ∗ rights c) from by
        unfold dealt rights; iintro H; iexists K; iexact H))
  isplitl [Hall] <;> iassumption

omit [FloatOps F] in
/-- The whole step, for all devices at once. -/
theorem all_down : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => put_down m c).trans (bigSep_fupd _ _)).trans (BI.fupd_mono (share_out m))

end Cert.Gather

end
-- ==== Proof.Launch.lean ====
/-
The whole program at the compiled mesh: all sixteen devices run the kernel side by side. From any memory with all
counters at zero every fair execution ends, with each device's result array as the launch data say, its argument
as it was, and every counter at zero.
-/
module

public import proofs.«01_k».proof.Proof.Owed
public import proofs.«01_k».proof.Proof.Funds
public import proofs.«01_k».proof.Proof.Gen.KernelIdeal.Points
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline asks for it -/

omit [FloatOps F] in
/-- A whole buffer held at known contents. -/
theorem holds_whole (c : Dev nD) (b : Ref sig .tc) (X : b.ty.Contents (Elt F)) :
    owns (c : Thread nD τ) (Memref.whole b) fullShare X
      = (iprop(∃ f, ⌜f = X⌝ ∗ ((c : Thread nD τ).loc b) ↦{fullShare} f) : sProp 𝕄) := by
  unfold owns; simp only [Memref.view_whole, View.read_whole, View.set_whole]

set_option maxRecDepth 4000 in
/-- The one grid point: from the staged argument and an output buffer in any state, to the gathered blocks. -/
theorem body_obligation (c : Dev nD) : BodyObligation (dats (F := F) m 0 c) (defs₀ (F := F)) 𝒱₀ () Set.univ := fun t => by
  rw [fin_N0 t, bigSep_W0, bigSep_W0]
  simp only [holds_whole]
  show iprop(start m c ∗ (dats m 0 c).owesAt () (t0_0 : Fin cfg0.N).castSucc
      ∗ (∃ d, ∃ f, ⌜f = (dats m 0 c).before (0 : Fin 2) t0_0 d⌝ ∗ ((c : Thread nD τ).loc cc0_stg0_0) ↦{fullShare} f) ∗ (∃ d, ∃ f, ⌜f = (dats m 0 c).before (1 : Fin 2) t0_0 d⌝ ∗ outAll c f))
    ⊢ wp frame (wpE (defs₀ (F := F)) 𝒱₀ (c : Thread nD τ) none) Set.univ
      (cc0_body (Memref.whole cc0_stg0_0) (Memref.isWhole_whole _) (Memref.whole cc0_stg1_0) (Memref.isWhole_whole _) cc0_scratch0 cc0_scratch1)
      (fun _ => iprop(finish c ∗ (dats m 0 c).owesAt () (t0_0 : Fin cfg0.N).succ
        ∗ (∃ f, ⌜f = arg m c⌝ ∗ ((c : Thread nD τ).loc cc0_stg0_0) ↦{fullShare} f) ∗ (∃ f, ⌜f = gath m c⌝ ∗ outAll c f)))
  unfold start Dat.owesAt Pipeline.owesWithin
  rw [show (dats m 0 c).owed (t0_0 : Fin cfg0.N).castSucc = O₀ c from rfl, show (dats m 0 c).owed (t0_0 : Fin cfg0.N).succ = 0 from rfl]
  iintro ⟨⟨⟨%K, HR, Hr⟩, Hrest⟩, ⟨%W, %hW, HO⟩, ⟨%d, %g, %hg, Hx⟩, %e, %f, -, Hout⟩
  rw [show g = arg m c from hg.trans (by unfold Dat.before; rw [if_pos (fetch0_0 _)]; exact staged_arg m c)]
  iapply (body_run m c K W f _)
  unfold inAll
  isplitl [HR Hr Hrest]
  · isplitl [HR]; · iexact HR
    isplitl [Hr] <;> iassumption
  isplitl [HO]; · iexact HO
  isplitl [Hx]; · iexact Hx
  isplitl [Hout]; · iexact Hout
  iintro ⟨⟨%W', HO⟩, Hz, Hx, Hout⟩
  isplitl [Hz]; · iexact Hz
  isplitl [HO]
  · iexists W'
    isplitr; · ipureintro; exact fun _ _ => Or.inl trivial
    iexact HO
  isplitl [Hx]
  · iexists _; isplitr; · ipureintro; rfl
    iexact Hx
  · iexists _; isplitr; · ipureintro; rfl
    iexact Hout

/-! ## The launch's side conditions -/

omit [FloatOps F] in
theorem share_full (c : Dev nD) (w : Fin cfg0.W) : (dats m 0 c).share w = fullShare := by unfold Dat.share; split <;> rfl

omit [FloatOps F] in
/-- What a device has after the set-up is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, HG⟩
  ihave Hc := (launch_claims (F := F) c) $$ Hcr
  icases Hc with ⟨Hb, Hd⟩
  imodintro
  isplitl
  · isplitl [HG]; · iexact HG
    isplitl [Hb]; · iexact Hb
    isplitl [Hd] <;> iassumption
  · iempintro

omit [FloatOps F] in
theorem phi_start (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -⟩; iexact Hs

omit [FloatOps F] in
theorem phi_finish (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = finish c from rfl, scopedRest0_eq, ← idle_all]
  iintro ⟨Hu, Ho⟩
  isplitl [Hu]; · iexact Hu
  isplitl [Ho]; · iexact Ho
  iempintro

omit [FloatOps F] in
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m 0 c).arrAt w cfg0.N

set_option maxRecDepth 8000 in
/-- From any memory with zero counters, at any float values: every fair execution on the sixteen devices ends, with
    every window's array at `finalA` and every counter at zero. -/
theorem run_all : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := all_down m)
    (hA := fun _ _ => rfl) (hpf := fun _ k => k.elim0)
    (X := start m) (Y := fun c => unscopedSems0 c) (Z := fun _ => iprop(emp))
    (hX := start_intro m ρ) (hin := phi_start m) (hout := phi_finish m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather

end
-- ==== Proof.Value.lean ====
/-
What the run leaves, in closed form: each device's argument as it was, and its result the blocks of its line, one
after the other. If the blocks are those of one whole array, the result is that array.
-/
module

public import proofs.«01_k».proof.Proof.Launch
public import Idealize.ShloMosaic.Lib.Layout

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The argument array at the end is the one at launch. -/
theorem final_arg (c : Dev nD) : finalA m c (0 : Fin 2) = m ((c : Thread nD τ).loc main_arg0) :=
  (dats m 0 c).arrAt_in (0 : Fin 2) rfl _

omit [FloatOps F] in
/-- The result array at the end is what the line gathers: its one block, the whole array, is flushed there. -/
theorem final_result (c : Dev nD) : finalA m c (1 : Fin 2) = gath m c := by
  have hblk : (win0_1.blk (0 : Fin 1)).view.read (Elt F) (finalA m c (1 : Fin 2)) = gath m c := by
    unfold finalA
    rw [show cfg0.N = ((0 : Fin 1) : Fin cfg0.N).val + 1 from rfl, (dats m 0 c).arrAt_succ (1 : Fin 2) (0 : Fin 1),
      show (cfg0.win (1 : Fin 2)).flush (0 : Fin 1) = true from by decide, if_pos rfl]
    exact View.read_write_univ _ _
  exact (Memref.read_access_unit_zero (Elt F) main_v1 (funext fun a => by fin_cases a <;> decide) (fun a => by fin_cases a <;> decide) _).symm.trans hblk

/-- The run: every fair execution ends, arguments unchanged, results gathered, counters at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = (gath m c : S1024x256.Idx → Elt F .f32)) ∧ r.2.sem = fun _ => 0) :=
  (θ_run defs _ _).mono (fun _ h => ⟨fun c => ⟨(h.1 c (0 : Fin 2)).trans (final_arg m c), (h.1 c (1 : Fin 2)).trans (final_result m c)⟩, h.2⟩)
    (run_all m ρ)

/-- The block number of a device along the cut axis is its place. -/
theorem block_place (c : Dev nD) : ((Layout.meshBlock [2, 2, 4] ![[2], []] c) 0).val = (place c).val := by
  revert c; decide

omit [FloatOps F] in
/-- If each device's argument is its block of the whole array `v`, what a line gathers is `v`. -/
theorem gath_whole (v : S1024x256.Idx → Elt F .f32)
    (h : ∀ c : Dev nD, arg m c = Layout.blockN ⟨2, ![256, 256]⟩ ⟨2, ![1024, 256]⟩ (Layout.meshBlock [2, 2, 4] ![[2], []] c) v) (c : Dev nD) :
    gath m c = v := by
  funext i
  unfold gath
  rw [h, Layout.blockN_apply]
  congr 1
  funext b
  apply Fin.ext
  rw [Layout.TilesN.idx_val]
  rcases b with ⟨_ | _ | n, hb⟩
  · have hp := (block_place (peer c ⟨(i 0).val / 256, by have h : (i 0).val < 1024 := (i 0).isLt; omega⟩)).trans (congrArg Fin.val (place_peer c _))
    show ((Layout.meshBlock [2, 2, 4] ![[2], []] (peer c ⟨(i 0).val / 256, _⟩)) 0).val * 256 + (i 0).val % 256 = (i 0).val
    rw [hp]
    show (i 0).val / 256 * 256 + (i 0).val % 256 = (i 0).val
    omega
  · show 0 * 256 + (i 1).val = (i 1).val
    omega
  · exact absurd hb (by simp)

end Cert.Gather

end
-- ==== Proof.Ref.lean ====
/-
The run of the reference program: it returns its argument, so there is nothing to run and nothing changes.
-/
module

public import proofs.«01_k».proof.Proof.Gen.ReferenceIdeal
public import Idealize.ShloMosaic.Lib.StableHlo.Run
public import Idealize.ShloMosaic.Lib.Quiescent

@[expose] public section

noncomputable section

namespace Cert.Identity

open Cert.ReferenceIdeal Cert.ReferenceIdeal.Gen
open Idealize.ShloMosaic Idealize.ShloMosaic.TcCoe Idealize.ShloMosaic.StableHlo Idealize.SL.Sem

variable {F : FTy → Type} [FloatOps F]

/-- From any memory, at any float values: every execution ends, the argument unchanged, every counter at zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (run_seq (by decide) (by decide) defs main (fun _ => []) (fun _ => rfl) (fun _ => trivial) m ρ)

end Cert.Identity

end
-- ==== Proof.lean ====
/-
The gather kernel is correct: every claim of Defs.lean holds.

Kernel.lean and KernelIdeal.lean are the same text, so one run, proved at any float values (Proof/Value.lean),
serves both: at machine floats for the first, at exact ones for the second. The reference returns its argument
(Proof/Ref.lean). When every device's argument is its block of the reference's argument, the blocks of a line
one after the other are that argument, which is the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.SL.Sem

/-- The kernel's two texts have the same body, -/
theorem same_body : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- and the same launch around it. -/
theorem same_defs : Cert.Kernel.defs (F := Bits) = Cert.KernelIdeal.defs (F := Bits) := by
  unfold Cert.Kernel.defs Cert.KernelIdeal.defs
  rw [same_body]
  rfl

/-- The kernel at machine floats runs to the end, arguments unchanged, counters at zero. -/
theorem frame_kernel : Cert.quiescent_Kernel := fun m ρ _ => by
  rw [same_defs]
  exact (θ_run Cert.KernelIdeal.defs _ _).mono (fun _ h => ⟨fun c => (h.1 c).1, h.2⟩) (Cert.Gather.run_main (F := Bits) m ρ)

/-- So does the kernel at exact floats, -/
theorem frame_ideal : Cert.quiescent_KernelIdeal := fun m ρ _ =>
  (θ_run Cert.KernelIdeal.defs _ _).mono (fun _ h => ⟨fun c => (h.1 c).1, h.2⟩) (Cert.Gather.run_main (F := Ideal) m ρ)

/-- and the reference. -/
theorem frame_reference : Cert.quiescent_ReferenceIdeal := fun m ρ _ => Cert.Identity.run_main (F := Ideal) m ρ

/-- Every device's result is the reference's result. -/
theorem value : Cert.algebraic_KernelIdeal_ReferenceIdeal := fun m ρ m' ρ' _ h =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ hr c => ⟨(hr.1 c).2.trans (Cert.Gather.gath_whole m _ h c), (hr.1 c).1⟩)
      (Cert.Gather.run_main (F := Ideal) m ρ),
    (θ_run Cert.ReferenceIdeal.defs _ _).mono (fun _ hr => ⟨hr.1 0, hr.1 0⟩) (Cert.Identity.run_main (F := Ideal) m' ρ')⟩

/-- All claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
